-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv127" .f32 0x3C010204#32 ((127⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024 : Shape := ⟨1, ![1024]⟩
abbrev S1024x1024 : Shape := ⟨2, ![1024, 1024]⟩
abbrev S8x128x1024 : Shape := ⟨3, ![8, 128, 1024]⟩
abbrev S1x128 : Shape := ⟨2, ![1, 128]⟩
abbrev S9 : Shape := ⟨1, ![9]⟩
abbrev S_ : Shape := ⟨0, ![]⟩
abbrev S1x128x1024 : Shape := ⟨3, ![1, 128, 1024]⟩
abbrev S128x1024 : Shape := ⟨2, ![128, 1024]⟩
abbrev S1 : Shape := ⟨1, ![1]⟩
abbrev S1x1x1 : Shape := ⟨3, ![1, 1, 1]⟩
abbrev S1x1 : Shape := ⟨2, ![1, 1]⟩
abbrev S128 : Shape := ⟨1, ![128]⟩
abbrev S128x1 : Shape := ⟨2, ![128, 1]⟩
abbrev S1x1024 : Shape := ⟨2, ![1, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1024x1024, .f32⟩
  | .local _ .vmem, ⟨0, _⟩ => ⟨S1x2048x1024, .f32⟩
  | .local _ .vmem, ⟨1, _⟩ => ⟨S1024, .f32⟩
  | .local _ .vmem, ⟨2, _⟩ => ⟨S1024x1024, .f32⟩
  | .local _ .vmem, ⟨3, _⟩ => ⟨S8x128x1024, .i8⟩
  | .local _ .vmem, ⟨4, _⟩ => ⟨S8x128x1024, .i8⟩
  | .local _ .vmem, ⟨5, _⟩ => ⟨S1x128, .f32⟩
  | .local _ .vmem, ⟨6, _⟩ => ⟨S1x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_8 : BitVec 32) : Fin 3 → Nat :=
  let c0 : Index := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c1024_i32 : BitVec 32 := 1024#32
  let v19 : BitVec 32 := Scalar.muli v9 c1024_i32
  let v20 : BitVec 32 := Scalar.addi v19 c0_i32_8
  let v21 : Index := Scalar.indexCast v20
  let c0_9 : Index := 0#32
  ![0, v21.toNat, 0]
def k0_dev2 (d0 : Dev nD) : Nat :=
  let c0_i32_55 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_54 : BitVec 32 := 16#32
  let v142 : BitVec 32 := Scalar.muli v9 c16_i32_54
  let v143 : BitVec 32 := Scalar.addi c0_i32_55 v142
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_56 : BitVec 32 := 4#32
  let v144 : BitVec 32 := Scalar.muli v5 c4_i32_56
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v146 : BitVec 32 := Scalar.muli v8 c1_i32_57
  let v147 : BitVec 32 := Scalar.addi v145 v146
  v147.toNat
def k0_dev3 (d0 : Dev nD) : Nat :=
  let c0_i32_72 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_71 : BitVec 32 := 16#32
  let v166 : BitVec 32 := Scalar.muli v9 c16_i32_71
  let v167 : BitVec 32 := Scalar.addi c0_i32_72 v166
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_73 : BitVec 32 := 4#32
  let v168 : BitVec 32 := Scalar.muli v5 c4_i32_73
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v170 : BitVec 32 := Scalar.muli v8 c1_i32_74
  let v171 : BitVec 32 := Scalar.addi v169 v170
  v171.toNat
def k0_dev4 (d0 : Dev nD) : Nat :=
  let c0_i32_92 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_91 : BitVec 32 := 16#32
  let v194 : BitVec 32 := Scalar.muli v9 c16_i32_91
  let v195 : BitVec 32 := Scalar.addi c0_i32_92 v194
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_93 : BitVec 32 := 4#32
  let v196 : BitVec 32 := Scalar.muli v5 c4_i32_93
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v198 : BitVec 32 := Scalar.muli v8 c1_i32_94
  let v199 : BitVec 32 := Scalar.addi v197 v198
  v199.toNat
def k0_dev5 (d0 : Dev nD) : Nat :=
  let c0_i32_112 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_111 : BitVec 32 := 16#32
  let v222 : BitVec 32 := Scalar.muli v9 c16_i32_111
  let v223 : BitVec 32 := Scalar.addi c0_i32_112 v222
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_113 : BitVec 32 := 4#32
  let v224 : BitVec 32 := Scalar.muli v5 c4_i32_113
  let v225 : BitVec 32 := Scalar.addi v223 v224
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v226 : BitVec 32 := Scalar.muli v8 c1_i32_114
  let v227 : BitVec 32 := Scalar.addi v225 v226
  v227.toNat
def k0_dev6 (d0 : Dev nD) : Nat :=
  let c0_i32_132 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_131 : BitVec 32 := 16#32
  let v250 : BitVec 32 := Scalar.muli v9 c16_i32_131
  let v251 : BitVec 32 := Scalar.addi c0_i32_132 v250
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_133 : BitVec 32 := 4#32
  let v252 : BitVec 32 := Scalar.muli v5 c4_i32_133
  let v253 : BitVec 32 := Scalar.addi v251 v252
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v254 : BitVec 32 := Scalar.muli v8 c1_i32_134
  let v255 : BitVec 32 := Scalar.addi v253 v254
  v255.toNat
def k0_dev7 (d0 : Dev nD) : Nat :=
  let c0_i32_152 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_151 : BitVec 32 := 16#32
  let v278 : BitVec 32 := Scalar.muli v9 c16_i32_151
  let v279 : BitVec 32 := Scalar.addi c0_i32_152 v278
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_153 : BitVec 32 := 4#32
  let v280 : BitVec 32 := Scalar.muli v5 c4_i32_153
  let v281 : BitVec 32 := Scalar.addi v279 v280
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v282 : BitVec 32 := Scalar.muli v8 c1_i32_154
  let v283 : BitVec 32 := Scalar.addi v281 v282
  v283.toNat
def k0_dev8 (d0 : Dev nD) : Nat :=
  let c0_i32_172 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_171 : BitVec 32 := 16#32
  let v306 : BitVec 32 := Scalar.muli v9 c16_i32_171
  let v307 : BitVec 32 := Scalar.addi c0_i32_172 v306
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_173 : BitVec 32 := 4#32
  let v308 : BitVec 32 := Scalar.muli v5 c4_i32_173
  let v309 : BitVec 32 := Scalar.addi v307 v308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v310 : BitVec 32 := Scalar.muli v8 c1_i32_174
  let v311 : BitVec 32 := Scalar.addi v309 v310
  v311.toNat
def k0_dev9 (d0 : Dev nD) : Nat :=
  let c0_i32_192 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_191 : BitVec 32 := 16#32
  let v334 : BitVec 32 := Scalar.muli v9 c16_i32_191
  let v335 : BitVec 32 := Scalar.addi c0_i32_192 v334
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_193 : BitVec 32 := 4#32
  let v336 : BitVec 32 := Scalar.muli v5 c4_i32_193
  let v337 : BitVec 32 := Scalar.addi v335 v336
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v338 : BitVec 32 := Scalar.muli v8 c1_i32_194
  let v339 : BitVec 32 := Scalar.addi v337 v338
  v339.toNat
def k0_dev10 (d0 : Dev nD) : Nat :=
  let c0_i32_212 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_211 : BitVec 32 := 16#32
  let v362 : BitVec 32 := Scalar.muli v9 c16_i32_211
  let v363 : BitVec 32 := Scalar.addi c0_i32_212 v362
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_213 : BitVec 32 := 4#32
  let v364 : BitVec 32 := Scalar.muli v5 c4_i32_213
  let v365 : BitVec 32 := Scalar.addi v363 v364
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v366 : BitVec 32 := Scalar.muli v8 c1_i32_214
  let v367 : BitVec 32 := Scalar.addi v365 v366
  v367.toNat
def k0_off2 (d0 : Dev nD) (c0_i32_240 : BitVec 32) : Fin 3 → Nat :=
  let c0_241 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_239 : BitVec 32 := 1024#32
  let v397 : BitVec 32 := Scalar.muli v2 c1024_i32_239
  let v398 : BitVec 32 := Scalar.addi v397 c0_i32_240
  let v399 : Index := Scalar.indexCast v398
  let c0_242 : Index := 0#32
  ![0, v399.toNat, 0]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "inv127" => some ((127⁻¹ : ℝ) : EReal)
  | _ => none
-- ==== ReferenceIdeal.lean ====
abbrev S2x2048x1024 : Shape := ⟨3, ![2, 2048, 1024]⟩
abbrev S1024 : Shape := ⟨1, ![1024]⟩
abbrev S2x2x8x128x1024 : Shape := ⟨5, ![2, 2, 8, 128, 1024]⟩
abbrev S_ : Shape := ⟨0, ![]⟩
abbrev S2x2x8 : Shape := ⟨3, ![2, 2, 8]⟩
abbrev S2x2x8x1x1 : Shape := ⟨5, ![2, 2, 8, 1, 1]⟩
abbrev S2x2 : Shape := ⟨2, ![2, 2]⟩
abbrev S2x2x1x1x1 : Shape := ⟨5, ![2, 2, 1, 1, 1]⟩
abbrev S2x8x128x1024 : Shape := ⟨4, ![2, 8, 128, 1024]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2x8x128x1024, .f32⟩
  | .hbm, ⟨3, _⟩ => ⟨S2x2x8x128x1024, .f32⟩
  | .hbm, ⟨4, _⟩ => ⟨S_, .f32⟩
  | .hbm, ⟨5, _⟩ => ⟨S2x2x8, .f32⟩
  | .hbm, ⟨6, _⟩ => ⟨S2x2x8x1x1, .f32⟩
  | .hbm, ⟨7, _⟩ => ⟨S_, .f32⟩
  | .hbm, ⟨8, _⟩ => ⟨S2x2x8x1x1, .f32⟩
  | .hbm, ⟨9, _⟩ => ⟨S2x2x8x1x1, .f32⟩
  | .hbm, ⟨10, _⟩ => ⟨S_, .f32⟩
  | .hbm, ⟨11, _⟩ => ⟨S2x2x8x1x1, .f32⟩
  | .hbm, ⟨12, _⟩ => ⟨S2x2x8x1x1, .f32⟩
  | .hbm, ⟨13, _⟩ => ⟨S2x2x8x128x1024, .f32⟩
  | .hbm, ⟨14, _⟩ => ⟨S2x2x8x128x1024, .f32⟩
  | .hbm, ⟨15, _⟩ => ⟨S2x2x8x128x1024, .f32⟩
  | .hbm, ⟨16, _⟩ => ⟨S2x2, .i32⟩
  | .hbm, ⟨17, _⟩ => ⟨S2x2, .i32⟩
  | .hbm, ⟨18, _⟩ => ⟨S_, .i32⟩
  | .hbm, ⟨19, _⟩ => ⟨S2x2, .i32⟩
  | .hbm, ⟨20, _⟩ => ⟨S2x2, .i32⟩
  | .hbm, ⟨21, _⟩ => ⟨S2x2, .i1⟩
  | .hbm, ⟨22, _⟩ => ⟨S2x2x1x1x1, .i1⟩
  | .hbm, ⟨23, _⟩ => ⟨S_, .f32⟩
  | .hbm, ⟨24, _⟩ => ⟨S2x2x8x1x1, .f32⟩
  | .hbm, ⟨25, _⟩ => ⟨S2x2x8x1x1, .f32⟩
  | .hbm, ⟨26, _⟩ => ⟨S2x2x8x128x1024, .f32⟩
  | .hbm, ⟨27, _⟩ => ⟨S2x2x8x128x1024, .f32⟩
  | .hbm, ⟨28, _⟩ => ⟨S2x2x8x128x1024, .i1⟩
  | .hbm, ⟨29, _⟩ => ⟨S2x2x8x128x1024, .f32⟩
  | .hbm, ⟨30, _⟩ => ⟨S_, .f32⟩
  | .hbm, ⟨31, _⟩ => ⟨S2x8x128x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S1x1024, .f32⟩
  | .hbm, ⟨47, _⟩ => ⟨S2048x1024, .f32⟩
  | .hbm, ⟨48, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call1_v0 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.KernelIdealProof.Hops.lean ====
/-
# The kernel's body as a short chain of named steps

The kernel's function is one long straight line: eight loads for the chunk maxima, one transfer of the row of
scales, eight quantised chunks stored and sent, eight chunks received and turned into rows of the result, and
the waits on the sends. This module names each kind of step once, at a chunk number `k`, as a function of what
comes after it, and states (`body_eq`) that the function is the chain of these steps.
-/
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic Idealize.SL.Sem

variable {F : FTy → Type} [FloatOps F] [Named F]

/-! ## The buffers and semaphores -/

/-- The device's block of `partial`, its copy of `gamma` and its block of the result. -/
abbrev pM : Memref sig .tc .vmem S1x2048x1024 .f32 := Memref.whole cc0_stg0_0
abbrev gM : Memref sig .tc .vmem S1024 .f32 := Memref.whole cc0_stg1_0
abbrev oM : Memref sig .tc .vmem S1024x1024 .f32 := Memref.whole cc0_stg2_0
/-- The quantised chunks to send and received, and the rows of scales to send and received. -/
abbrev sqM : Memref sig .tc .vmem S8x128x1024 .i8 := Memref.whole cc0_scratch0
abbrev rqM : Memref sig .tc .vmem S8x128x1024 .i8 := Memref.whole cc0_scratch1
abbrev ssM : Memref sig .tc .vmem S1x128 .f32 := Memref.whole cc0_scratch2
abbrev srM : Memref sig .tc .vmem S1x128 .f32 := Memref.whole cc0_scratch3

theorem inbQ (k : Fin 8) : ∀ a, (![k.val, 0, 0] : Fin 3 → Nat) a + S1x128x1024.size a ≤ S8x128x1024.size a := by revert k; decide
theorem inbS (k : Fin 9) : ∀ a, (![k.val] : Fin 1 → Nat) a + S1.size a ≤ S9.size a := by revert k; decide
theorem inbR (k : Fin 8) : ∀ a, (![0, k.val] : Fin 2 → Nat) a + S1x1.size a ≤ S1x128.size a := by revert k; decide
theorem inbO (k : Fin 8) : ∀ a, (![128 * k.val, 0] : Fin 2 → Nat) a + S128x1024.size a ≤ S1024x1024.size a := by revert k; decide

/-- Chunk `k` of the quantised chunks; lane `k` of the scales; the rows of chunk `k` in the result. -/
abbrev qR (k : Fin 8) : Rect S8x128x1024 := Rect.unit (s := S8x128x1024) ![k.val, 0, 0] S1x128x1024.size (inbQ k)
abbrev lR (k : Fin 8) : Rect S1x128 := Rect.unit (s := S1x128) ![0, k.val] S1x1.size (inbR k)
abbrev oR (k : Fin 8) : Rect S1024x1024 := Rect.unit (s := S1024x1024) ![128 * k.val, 0] S128x1024.size (inbO k)
abbrev sR : Rect S1x128 := Rect.unit (s := S1x128) ![0, 0] S1x128.size inb_S1x128_S1x128_0_0
abbrev gR : Rect S1024 := Rect.unit (s := S1024) ![0] S1024.size inb_S1024_S1024_0
/-- Chunk `k` of the half of `partial` that belongs to the peer of device `c`; of the device's own half. -/
abbrev peerR (c : Dev nD) (k : Fin 8) : Rect S1x2048x1024 :=
  Rect.unit (s := S1x2048x1024) (k0_off1 c (BitVec.ofNat 32 (128 * k.val))) S1x128x1024.size (k0_off1_inb c k)
abbrev ownR (c : Dev nD) (k : Fin 8) : Rect S1x2048x1024 :=
  Rect.unit (s := S1x2048x1024) (k0_off2 c (BitVec.ofNat 32 (128 * k.val))) S1x128x1024.size (k0_off2_inb c k)

theorem packedQ (k : Fin 8) : (qR k).PackedRows (EltTy.packing .i8) := by revert k; decide
theorem wordsQ (k : Fin 8) : (qR k).WholeWords (EltTy.packing .i8) := by revert k; decide

abbrev sqS (k : Fin 8) : Memref sig .tc .vmem S128x1024 .i8 := (sqM.slice (qR k) (fun _ => rfl)).squeeze S128x1024 squeezes_S1x128x1024_S128x1024
abbrev rqS (k : Fin 8) : Memref sig .tc .vmem S128x1024 .i8 := (rqM.slice (qR k) (fun _ => rfl)).squeeze S128x1024 squeezes_S1x128x1024_S128x1024

/-- The barrier semaphore, and lane `i` of the send and of the receive semaphores. -/
abbrev barS : Sem sig := (SemArray.scalar (sig.barrier 0 rfl) : Sems sig S_).sem
abbrev sendS (i : Fin 9) : DmaSem sig := ((cc0_scratch4.slice (Rect.unit (s := S9) ![i.val] S1.size (inbS i))).squeeze S_ squeezes_S1_S_).sem
abbrev recvS (i : Fin 9) : DmaSem sig := ((cc0_scratch5.slice (Rect.unit (s := S9) ![i.val] S1.size (inbS i))).squeeze S_ squeezes_S1_S_).sem

/-! ## The values -/

/-- The largest magnitude in a chunk; a chunk quantised by that maximum; the row of the eight scales;
    the rows of the result from a scale, the device's own rows, the received chunk and `gamma`. -/
def chunkMax (v : Vec F S1x128x1024 .f32) : F .f32 := k0_pay1 v
def quant (v0 v : Vec F S1x128x1024 .f32) : Vec F S1x128x1024 .i8 := k0_pay16 (k0_pay15 (k0_pay1 v0)) v
def scaleRow (v : Fin 8 → Vec F S1x128x1024 .f32) : Vec F S1x128 .f32 :=
  let l : IVec S1x128 32 := iota .tc S1x128 32 [1] iota_S1x128_d1_w32
  k0_pay14 l (k0_pay10 l (k0_pay5 l (k0_pay2 (v 0)) (v 1) (v 2)) (k0_pay6 (v 3)) k0_pay7 (v 4) (v 5)) (k0_pay11 (v 6)) (v 7)
def outRows (s : Vec F S1x1 .f32) (mine : Vec F S1x128x1024 .f32) (q : Vec F S1x128x1024 .i8) (g : Vec F S1024 .f32) : Vec F S128x1024 .f32 :=
  k0_pay29 (k0_pay28 s mine q) g

/-! ## The steps -/

abbrev Pg (F : FTy → Type) : Type 1 := Prog (TpuEff nD τ sig (Elt F) Λ₀ .tc) PUnit

/-- Tell device `n` that this device has entered, and wait to be told the same. -/
def hsStep (n : Dev nD) (rest : Pg F) : Pg F :=
  .op (.semSignal (Dev.tc n : Thread nD τ) barS 1) fun _ => .op (.semWait barS 1) fun _ => rest
/-- Load chunk `k` of the peer's half. -/
def loadStep (c : Dev nD) (k : Fin 8) (rest : Vec F S1x128x1024 .f32 → Pg F) : Pg F :=
  .op (.load pM (peerR c k).toLoadRect (View.loadsAt_vmem h_S1x128x1024)) rest
/-- Store the row of scales. -/
def storeScales (w : Vec F S1x128 .f32) (rest : Pg F) : Pg F :=
  .op (.load ssM sR.toLoadRect (View.loadsAt_vmem h_S1x128)) fun _ =>
    .op (.store ssM sR w Finset.univ (View.stores_vmem_bits_univ h_S1x128 rfl) (.inl rfl)) fun _ => rest
/-- Send the row of scales to device `n`. -/
def sendScales (n : Dev nD) (rest : Pg F) : Pg F :=
  .op (.enqueueDma ssM (.remote (Dev.tc n) srM (.dma (sendS 8))) (.dma (recvS 8)) (Memref.isWhole_whole _).wordExact (Memref.isWhole_whole _).wordExact ⟨⟨rfl, Or.inl rfl⟩, trivial⟩) fun _ => rest
/-- Store the quantised chunk `k`. -/
def storeChunk (k : Fin 8) (w : Vec F S1x128x1024 .i8) (rest : Pg F) : Pg F :=
  .op (.load sqM (qR k).toLoadRect (View.loadsAt_vmem h_S1x128x1024)) fun _ =>
    .op (.store sqM (qR k) w Finset.univ (View.stores_vmem h_S1x128x1024 ((Memref.isWhole_whole _).storeExact_slice rfl _ (packedQ k)) (fun _ => rfl)) (.inl rfl)) fun _ => rest
/-- Send the quantised chunk `k` to device `n`. -/
def sendChunk (n : Dev nD) (k : Fin 8) (rest : Pg F) : Pg F :=
  .op (.enqueueDma (sqS k) (.remote (Dev.tc n) (rqS k) (.dma (sendS k.castSucc))) (.dma (recvS k.castSucc))
    (((Memref.isWhole_whole _).wordExact_slice rfl _ (wordsQ k)).reshape _ _) (((Memref.isWhole_whole _).wordExact_slice rfl _ (wordsQ k)).reshape _ _) ⟨⟨rfl, Or.inl rfl⟩, trivial⟩) fun _ => rest
/-- Load chunk `k`, quantise it by the maximum of `v0`, store it and send it to device `n`. -/
def quantStep (c n : Dev nD) (k : Fin 8) (v0 : Vec F S1x128x1024 .f32) (rest : Pg F) : Pg F :=
  loadStep c k fun v => storeChunk k (quant v0 v) (sendChunk n k rest)
/-- Wait for the peer's row of scales. -/
def waitScales (rest : Pg F) : Pg F :=
  .op (.waitDma2 (recvS 8) ssM srM (Memref.isWhole_whole _).wordExact (Memref.isWhole_whole _).wordExact) fun _ => rest
/-- Wait for the peer's chunk `k`. -/
def waitChunk (k : Fin 8) (rest : Pg F) : Pg F :=
  .op (.waitDma2 (recvS k.castSucc) (sqS k) (rqS k) (((Memref.isWhole_whole _).wordExact_slice rfl _ (wordsQ k)).reshape _ _)
    (((Memref.isWhole_whole _).wordExact_slice rfl _ (wordsQ k)).reshape _ _)) fun _ => rest
/-- Compute and store the result's rows of chunk `k`. -/
def rowsStep (c : Dev nD) (k : Fin 8) (rest : Pg F) : Pg F :=
  .op (.load srM (lR k).toLoadRect (View.loadsAt_vmem h_S1x1)) fun s =>
  .op (.load pM (ownR c k).toLoadRect (View.loadsAt_vmem h_S1x128x1024)) fun mine =>
  .op (.load rqM (qR k).toLoadRect (View.loadsAt_vmem h_S1x128x1024)) fun q =>
  .op (.load gM gR.toLoadRect (View.loadsAt_vmem h_S1024)) fun g =>
  .op (.load oM (oR k).toLoadRect (View.loadsAt_vmem h_S128x1024)) fun _ =>
  .op (.store oM (oR k) (outRows s mine q g) Finset.univ (View.stores_vmem_bits_univ h_S128x1024 rfl) (.inl rfl)) fun _ => rest
/-- Wait until the row of scales, and until chunk `k`, has left. -/
def drainScales (rest : Pg F) : Pg F :=
  .op (.waitDma2 (sendS 8) srM ssM (Memref.isWhole_whole _).wordExact (Memref.isWhole_whole _).wordExact) fun _ => rest
def drainChunk (k : Fin 8) (rest : Pg F) : Pg F :=
  .op (.waitDma2 (sendS k.castSucc) (rqS k) (sqS k) (((Memref.isWhole_whole _).wordExact_slice rfl _ (wordsQ k)).reshape _ _)
    (((Memref.isWhole_whole _).wordExact_slice rfl _ (wordsQ k)).reshape _ _)) fun _ => rest

/-- Steps after the chunk maxima `v` are loaded. -/
def afterMax (c : Dev nD) (v : Fin 8 → Vec F S1x128x1024 .f32) : Pg F :=
  storeScales (scaleRow v) <| sendScales ⟨k0_dev2 c, k0_dev2_lt c⟩ <|
  quantStep c ⟨k0_dev3 c, k0_dev3_lt c⟩ 0 (v 0) <| quantStep c ⟨k0_dev4 c, k0_dev4_lt c⟩ 1 (v 1) <|
  quantStep c ⟨k0_dev5 c, k0_dev5_lt c⟩ 2 (v 2) <| quantStep c ⟨k0_dev6 c, k0_dev6_lt c⟩ 3 (v 3) <|
  quantStep c ⟨k0_dev7 c, k0_dev7_lt c⟩ 4 (v 4) <| quantStep c ⟨k0_dev8 c, k0_dev8_lt c⟩ 5 (v 5) <|
  quantStep c ⟨k0_dev9 c, k0_dev9_lt c⟩ 6 (v 6) <| quantStep c ⟨k0_dev10 c, k0_dev10_lt c⟩ 7 (v 7) <|
  waitScales <| waitChunk 0 <| rowsStep c 0 <| waitChunk 1 <| rowsStep c 1 <| waitChunk 2 <| rowsStep c 2 <|
  waitChunk 3 <| rowsStep c 3 <| waitChunk 4 <| rowsStep c 4 <| waitChunk 5 <| rowsStep c 5 <|
  waitChunk 6 <| rowsStep c 6 <| waitChunk 7 <| rowsStep c 7 <|
  drainScales <| drainChunk 0 <| drainChunk 1 <| drainChunk 2 <| drainChunk 3 <| drainChunk 4 <| drainChunk 5 <|
  drainChunk 6 <| drainChunk 7 <| .ret ⟨⟩

/-- The whole function at device `c`. -/
def steps (c : Dev nD) : Pg F :=
  hsStep ⟨k0_dev1 c, k0_dev1_lt c⟩ <|
  loadStep c 0 fun v0 => loadStep c 1 fun v1 => loadStep c 2 fun v2 => loadStep c 3 fun v3 =>
  loadStep c 4 fun v4 => loadStep c 5 fun v5 => loadStep c 6 fun v6 => loadStep c 7 fun v7 =>
  afterMax c ![v0, v1, v2, v3, v4, v5, v6, v7]

set_option maxRecDepth 100000 in
/-- The kernel's function is: read the device's number, then the chain of steps. -/
theorem body_eq :
    cc0_body (F := F) pM (Memref.isWhole_whole _) gM (Memref.isWhole_whole _) oM (Memref.isWhole_whole _) sqM (Memref.isWhole_whole _)
      rqM (Memref.isWhole_whole _) ssM (Memref.isWhole_whole _) srM (Memref.isWhole_whole _) cc0_scratch4 cc0_scratch5
      = .op .deviceId fun c => steps c := by
  rw [cc0_body_eq_skeleton]; unfold cc0_body_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton]
  rfl

end Cert.KernelIdealProof

end
-- ==== Proof.KernelIdealProof.Protocol.lean ====
/-
# The exchange's protocol

Every device talks to one peer, sixteen places along the device numbers. It tells its peer that it has entered
(the barrier semaphore), then sends one row of scales and eight quantised chunks, each transfer on its own lane
of the send and of the receive semaphores. This module states the protocol: the cells, what a payment on each
cell carries with it, what a device owes when it starts, and the order of the cells that rules out a deadlock.
-/
module

public import proofs.«01_k».proof.Proof.KernelIdealProof.Hops
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The ghost state -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The machine at launch: any memory, every semaphore at zero, any generator registers. -/
def s₀ : MemSt nD τ sig (Elt F) := ⟨m, fun _ => 0, ρ⟩

/-! ## The peer -/

/-- The device with the other first mesh coordinate: sixteen places along. -/
def peer (c : Dev nD) : Dev nD := ⟨(c.val + 16) % 32, Nat.mod_lt _ (by decide)⟩

theorem peer_peer (c : Dev nD) : peer (peer c) = c := by revert c; decide

/-- Every transfer and the signal name the peer. -/
theorem dev1_eq (c : Dev nD) : (⟨k0_dev1 c, k0_dev1_lt c⟩ : Dev nD) = peer c := Fin.ext ((k0_dev1_eq c).trans (by revert c; decide))
theorem dev2_eq (c : Dev nD) : (⟨k0_dev2 c, k0_dev2_lt c⟩ : Dev nD) = peer c := Fin.ext ((k0_dev2_eq c).trans (by revert c; decide))
theorem dev3_eq (c : Dev nD) : (⟨k0_dev3 c, k0_dev3_lt c⟩ : Dev nD) = peer c := Fin.ext ((k0_dev3_eq c).trans (by revert c; decide))
theorem dev4_eq (c : Dev nD) : (⟨k0_dev4 c, k0_dev4_lt c⟩ : Dev nD) = peer c := Fin.ext ((k0_dev4_eq c).trans (by revert c; decide))
theorem dev5_eq (c : Dev nD) : (⟨k0_dev5 c, k0_dev5_lt c⟩ : Dev nD) = peer c := Fin.ext ((k0_dev5_eq c).trans (by revert c; decide))
theorem dev6_eq (c : Dev nD) : (⟨k0_dev6 c, k0_dev6_lt c⟩ : Dev nD) = peer c := Fin.ext ((k0_dev6_eq c).trans (by revert c; decide))
theorem dev7_eq (c : Dev nD) : (⟨k0_dev7 c, k0_dev7_lt c⟩ : Dev nD) = peer c := Fin.ext ((k0_dev7_eq c).trans (by revert c; decide))
theorem dev8_eq (c : Dev nD) : (⟨k0_dev8 c, k0_dev8_lt c⟩ : Dev nD) = peer c := Fin.ext ((k0_dev8_eq c).trans (by revert c; decide))
theorem dev9_eq (c : Dev nD) : (⟨k0_dev9 c, k0_dev9_lt c⟩ : Dev nD) = peer c := Fin.ext ((k0_dev9_eq c).trans (by revert c; decide))
theorem dev10_eq (c : Dev nD) : (⟨k0_dev10 c, k0_dev10_lt c⟩ : Dev nD) = peer c := Fin.ext ((k0_dev10_eq c).trans (by revert c; decide))

def swap : Dev nD ≃ Dev nD := ⟨peer, peer, peer_peer, peer_peer⟩

/-! ## The cells -/

/-- A lane: chunks 0 to 7, and 8 for the row of scales. -/
abbrev Lane : Type := Fin 9
/-- A device's cells: the barrier, and the send (`false`) and receive (`true`) cell of every lane. -/
abbrev CI : Type := Option (Bool × Lane)

abbrev csem : CI → SemLoc sig
  | none => .reg barS
  | some (false, i) => .dma (sendS i)
  | some (true, i) => .dma (recvS i)
/-- The lanes' semaphores, which belong to the kernel alone. -/
abbrev osem (x : Bool × Lane) : SemLoc sig := csem (some x)

theorem csem_injective : Function.Injective csem := by decide

abbrev kcell (ck : Dev nD × CI) : GSem nD τ sig := ((ck.1 : Thread nD τ), csem ck.2)
abbrev barCell (c : Dev nD) : GSem nD τ sig := kcell (c, none)
abbrev sendCell (c : Dev nD) (i : Lane) : GSem nD τ sig := kcell (c, some (false, i))
abbrev recvCell (c : Dev nD) (i : Lane) : GSem nD τ sig := kcell (c, some (true, i))

/-- The credit of one transfer on a lane, and of one payment on a cell. -/
def amt (i : Lane) : ℕ := if i.val < 8 then (rqS 0 : Memref sig .tc .vmem S128x1024 .i8).view.dmaCredit else (srM : Memref sig .tc .vmem S1x128 .f32).view.dmaCredit
def camt : CI → ℕ
  | none => 1
  | some (_, i) => amt i

theorem amt_pos (i : Lane) : 0 < amt i := by unfold amt; split <;> exact View.dmaCredit_pos _ (by decide)
theorem camt_pos (x : CI) : 0 < camt x := by
  rcases x with _ | ⟨b, i⟩
  · exact Nat.one_pos
  · exact amt_pos i
theorem amt_chunk (k : Fin 8) : amt k.castSucc = (rqS k : Memref sig .tc .vmem S128x1024 .i8).view.dmaCredit := if_pos k.isLt
theorem amt_chunk' (k : Fin 8) : amt k.castSucc = (sqS k : Memref sig .tc .vmem S128x1024 .i8).view.dmaCredit := if_pos k.isLt
theorem amt_scales : amt 8 = (srM : Memref sig .tc .vmem S1x128 .f32).view.dmaCredit := if_neg (by decide)
theorem amt_scales' : amt 8 = (ssM : Memref sig .tc .vmem S1x128 .f32).view.dmaCredit := if_neg (by decide)

/-! ## Contents -/

/-- What device `c`'s staging buffers hold during the body: its block of `partial`, and `gamma`. -/
def xstg (c : Dev nD) : (cc0_stg0_0 : Ref sig .tc).ty.Contents (Elt F) :=
  (win0_0.blk (0 : Fin 1)).view.read (Elt F) ((s₀ m ρ).mem ((c : Thread nD τ).loc main_arg0))
def gstg (c : Dev nD) : (cc0_stg1_0 : Ref sig .tc).ty.Contents (Elt F) :=
  (win0_1.blk (0 : Fin 1)).view.read (Elt F) ((s₀ m ρ).mem ((c : Thread nD τ).loc main_arg1))

/-- Chunk `k` of the peer's half of device `c`'s block; of its own half. -/
def peerChunk (c : Dev nD) (k : Fin 8) : Vec F S1x128x1024 .f32 :=
  (pM : Memref sig .tc .vmem S1x2048x1024 .f32).view.readAt (Elt F) (peerR c k).toLoadRect (xstg m ρ c)
def ownChunk (c : Dev nD) (k : Fin 8) : Vec F S1x128x1024 .f32 :=
  (pM : Memref sig .tc .vmem S1x2048x1024 .f32).view.readAt (Elt F) (ownR c k).toLoadRect (xstg m ρ c)
/-- The quantised chunk `k` that device `c` sends, and its row of scales. -/
def qChunk (c : Dev nD) (k : Fin 8) : Vec F S1x128x1024 .i8 := quant (peerChunk m ρ c k) (peerChunk m ρ c k)
def scales (c : Dev nD) : Vec F S1x128 .f32 := scaleRow (peerChunk m ρ c)
/-- The result's rows of chunk `k` on device `c`; the device's whole block of the result. -/
def rowsAt (c : Dev nD) (k : Fin 8) : Vec F S128x1024 .f32 :=
  outRows ((srM : Memref sig .tc .vmem S1x128 .f32).view.readAt (Elt F) (lR k).toLoadRect (scales m ρ (peer c)))
    (ownChunk m ρ c k) (qChunk m ρ (peer c) k) ((gM : Memref sig .tc .vmem S1024 .f32).view.readAt (Elt F) gR.toLoadRect (gstg m ρ c))
def outAt (c : Dev nD) : (cc0_stg2_0 : Ref sig .tc).ty.Contents (Elt F) := fun i =>
  rowsAt m ρ c ⟨(i 0).val / 128, Nat.div_lt_of_lt_mul (i 0).isLt⟩ fun a =>
    match a with
    | ⟨0, _⟩ => ⟨(i 0).val % 128, Nat.mod_lt _ (by decide)⟩
    | ⟨1, _⟩ => ⟨(i 1).val, (i 1).isLt⟩

/-! ## The buffers held -/

/-- Chunk `k` of device `c`'s chunks to send, and of its received chunks, at contents `f` of the whole buffer. -/
def sqPts (c : Dev nD) (k : Fin 8) (f : Buf (Elt F) ((c : Thread nD τ).loc cc0_scratch0)) : sProp 𝕄 :=
  (sqS k : Memref sig .tc .vmem S128x1024 .i8).view.loc (c : Thread nD τ) ↦[(sqS k : Memref sig .tc .vmem S128x1024 .i8).view.set]{fullShare} f
def rqPts (c : Dev nD) (k : Fin 8) (f : Buf (Elt F) ((c : Thread nD τ).loc cc0_scratch1)) : sProp 𝕄 :=
  (rqS k : Memref sig .tc .vmem S128x1024 .i8).view.loc (c : Thread nD τ) ↦[(rqS k : Memref sig .tc .vmem S128x1024 .i8).view.set]{fullShare} f
/-- Device `c`'s row of scales to send, and received. -/
def ssPts (c : Dev nD) (f : Buf (Elt F) ((c : Thread nD τ).loc cc0_scratch2)) : sProp 𝕄 :=
  (ssM : Memref sig .tc .vmem S1x128 .f32).view.loc (c : Thread nD τ) ↦[(ssM : Memref sig .tc .vmem S1x128 .f32).view.set]{fullShare} f
def srPts (c : Dev nD) (f : Buf (Elt F) ((c : Thread nD τ).loc cc0_scratch3)) : sProp 𝕄 :=
  (srM : Memref sig .tc .vmem S1x128 .f32).view.loc (c : Thread nD τ) ↦[(srM : Memref sig .tc .vmem S1x128 .f32).view.set]{fullShare} f

/-- A chunk's buffer holds the quantised chunk `w`. -/
def SqHolds (k : Fin 8) (f : (cc0_scratch0 : Ref sig .tc).ty.Contents (Elt F)) (w : Vec F S1x128x1024 .i8) : Prop :=
  (sqM : Memref sig .tc .vmem S8x128x1024 .i8).view.readAt (Elt F) (qR k).toLoadRect f = w
def RqHolds (k : Fin 8) (f : (cc0_scratch1 : Ref sig .tc).ty.Contents (Elt F)) (w : Vec F S1x128x1024 .i8) : Prop :=
  (rqM : Memref sig .tc .vmem S8x128x1024 .i8).view.readAt (Elt F) (qR k).toLoadRect f = w

/-! ## What a payment carries -/

/-- The barrier signal hands over the signaller's landing buffers. -/
def barPay (c : Dev nD) : sProp 𝕄 :=
  iprop((bigSep Finset.univ fun k : Fin 8 => iprop(∃ f, rqPts (peer c) k f)) ∗ ∃ f, srPts (peer c) f)
/-- A landed transfer hands the receiver its buffer at the sender's values; -/
def recvPay (c : Dev nD) (i : Lane) : sProp 𝕄 :=
  if h : i.val < 8 then iprop(∃ f, ⌜RqHolds ⟨i.val, h⟩ f (qChunk m ρ (peer c) ⟨i.val, h⟩)⌝ ∗ rqPts c ⟨i.val, h⟩ f)
  else srPts c (scales m ρ (peer c))
/-- a finished send hands the sender its buffer back. -/
def sendPay (c : Dev nD) (i : Lane) : sProp 𝕄 :=
  if h : i.val < 8 then iprop(∃ f, sqPts c ⟨i.val, h⟩ f) else iprop(∃ f, ssPts c f)

def pay (c : Dev nD) : CI → sProp 𝕄
  | none => barPay c
  | some (false, i) => sendPay c i
  | some (true, i) => recvPay m ρ c i

instance pay_storable (c : Dev nD) (x : CI) : BI.Storable (upEmb : UEmb _ 𝕄) (pay (F := F) m ρ c x) := by
  rcases x with _ | ⟨_ | _, i⟩
  · show BI.Storable upEmb (barPay c); unfold barPay rqPts srPts; infer_instance
  · show BI.Storable upEmb (sendPay c i); unfold sendPay sqPts ssPts; split <;> infer_instance
  · show BI.Storable upEmb (recvPay m ρ c i); unfold recvPay rqPts srPts; split <;> infer_instance

theorem recvPay_chunk (c : Dev nD) (k : Fin 8) :
    recvPay m ρ c k.castSucc = iprop(∃ f, ⌜RqHolds k f (qChunk m ρ (peer c) k)⌝ ∗ rqPts c k f) := dif_pos k.isLt
theorem recvPay_scales (c : Dev nD) : recvPay m ρ c 8 = srPts c (scales m ρ (peer c)) := dif_neg (by decide)
theorem sendPay_chunk (c : Dev nD) (k : Fin 8) : sendPay (F := F) c k.castSucc = iprop(∃ f, sqPts c k f) := dif_pos k.isLt
theorem sendPay_scales (c : Dev nD) : sendPay (F := F) c 8 = iprop(∃ f, ssPts c f) := dif_neg (by decide)

/-! ## The schedule -/

/-- Which of a device's cells a semaphore is. -/
def dec : SemLoc sig → Option CI := Function.partialInv csem
theorem dec_csem (x : CI) : dec (csem x) = some x := Function.partialInv_left csem_injective x

/-- Every cell of a TensorCore takes one payment, in round 0. -/
def rd : Rounds.Schedule (GSem nD τ sig) Unit 𝕄 where
  duties g r := if r = 0 ∧ g.1.2 = .tc ∧ (dec g.2).isSome then {()} else ∅
  unitless _ := False
  amount g _ _ := match dec g.2 with
    | none => 1
    | some x => camt x
  payload g _ _ := match dec g.2 with
    | none => iprop(emp)
    | some x => pay m ρ g.1.1 x
  amount_pos g _ _ _ := by
    rcases dec g.2 with _ | x
    · exact Nat.one_pos
    · exact camt_pos x

instance rd_payload_storable (g : GSem nD τ sig) (r : ℕ) (d : Unit) :
    BI.Storable (upEmb : UEmb _ 𝕄) ((rd (F := F) m ρ).payload g r d) := by
  show BI.Storable upEmb (match dec g.2 with
    | none => iprop(emp)
    | some x => pay m ρ g.1.1 x)
  rcases dec g.2 with _ | x <;> infer_instance

section Sched
variable (c : Dev nD) (x : CI)

theorem duties_at : (rd (F := F) m ρ).duties (kcell (c, x)) 0 = {()} := by
  show (if 0 = 0 ∧ (kcell (c, x)).1.2 = .tc ∧ (dec (csem x)).isSome then ({()} : Finset Unit) else ∅) = _
  rw [dec_csem]; exact if_pos ⟨rfl, rfl, rfl⟩
theorem mem_duties : () ∈ (rd (F := F) m ρ).duties (kcell (c, x)) 0 := by rw [duties_at]; exact Finset.mem_singleton_self _
theorem duties_later (g : GSem nD τ sig) : ∀ r, 1 ≤ r → (rd (F := F) m ρ).duties g r = ∅ :=
  fun r hr => by dsimp only [rd]; rw [if_neg fun h => by omega]
theorem amount_at (d : Unit) : (rd (F := F) m ρ).amount (kcell (c, x)) 0 d = camt x := by
  show (match dec (csem x) with
    | none => 1
    | some x => camt x) = _
  rw [dec_csem]
theorem payload_at (d : Unit) : (rd (F := F) m ρ).payload (kcell (c, x)) 0 d = pay m ρ c x := by
  show (match dec (csem x) with
    | none => iprop(emp)
    | some x => pay m ρ c x) = _
  rw [dec_csem]
theorem expect_at : (rd (F := F) m ρ).expect (kcell (c, x)) 0 = camt x := by
  unfold Schedule.expect Schedule.amountOf; rw [duties_at, Finset.sum_singleton, amount_at]
theorem rest_at : bigSep ((rd (F := F) m ρ).duties (kcell (c, x)) 0 \ ∅) (fun d => (rd (F := F) m ρ).payload (kcell (c, x)) 0 d) = pay m ρ c x := by
  rw [Finset.sdiff_empty, duties_at, bigSep_singleton, payload_at]

end Sched

/-! ## What a device owes, and the order of the cells -/

/-- The receive credits device `c` owes its peer for the chunks from `k` on; -/
def due (c : Dev nD) (k : ℕ) : CellTallies nD τ sig Unit :=
  ∑ j ∈ Finset.univ.filter (fun j : Fin 8 => k ≤ j.val), tallyAt (recvCell (peer c) j.castSucc) () (amt j.castSucc)
/-- with the row of scales; and with the barrier signal: all it owes at the start. -/
def dueAll (c : Dev nD) : CellTallies nD τ sig Unit := due c 0 + tallyAt (recvCell (peer c) 8) () (amt 8)
def O₀ (c : Dev nD) : CellTallies nD τ sig Unit := dueAll c + tallyAt (barCell (peer c)) () 1

theorem due_step (c : Dev nD) (k : Fin 8) : due c k.val = due c (k.val + 1) + tallyAt (recvCell (peer c) k.castSucc) () (amt k.castSucc) := by
  unfold due
  have h : (Finset.univ.filter fun j : Fin 8 => k.val ≤ j.val) = insert k (Finset.univ.filter fun j : Fin 8 => k.val + 1 ≤ j.val) := by
    ext j
    simp only [Finset.mem_filter, Finset.mem_univ, true_and, Finset.mem_insert, Fin.ext_iff]; omega
  rw [h, Finset.sum_insert (by simp), add_comm]
theorem due_end (c : Dev nD) : due c 8 = 0 := by
  unfold due
  rw [Finset.filter_false_of_mem (fun j _ => by have := j.isLt; omega), Finset.sum_empty]

def L (g : GSem nD τ sig) : Finset Unit := if g.1.2 = .tc then {()} else ∅
/-- Barrier cells come before the receive cells; every other cell comes before both. -/
def lv (g : GSem nD τ sig) (_ : Unit) : ℕ := if g.2 = .reg barS then 1 else if ∃ i, g.2 = .dma (recvS i) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (i : Lane) : lv (recvCell c i) () = 2 := by
  unfold lv; rw [if_neg (fun h => by cases h), if_pos ⟨i, rfl⟩]

theorem due_pos {c : Dev nD} {k : ℕ} {g : GSem nD τ sig} {u : Unit} (h : 0 < due c k g u) : ∃ i, g = recvCell (peer c) i := by
  unfold due at h
  rw [Finset.sum_apply, Finsupp.finsetSum_apply] at h
  obtain ⟨j, -, hj⟩ := Finset.exists_ne_zero_of_sum_ne_zero (Nat.pos_iff_ne_zero.mp h)
  exact ⟨j.castSucc, (Pipeline.tallyAt_pos (Nat.pos_of_ne_zero hj)).1⟩
theorem dueAll_pos {c : Dev nD} {g : GSem nD τ sig} {u : Unit} (h : 0 < dueAll c g u) : ∃ i, g = recvCell (peer c) i := by
  unfold dueAll at h
  rw [Pi.add_apply, Finsupp.add_apply] at h
  rcases Nat.add_pos_iff_pos_or_pos.mp h with h | h
  · exact due_pos h
  · exact ⟨8, (Pipeline.tallyAt_pos h).1⟩
theorem O₀_pos {c : Dev nD} {g : GSem nD τ sig} {u : Unit} (h : 0 < O₀ c g u) : (∃ i, g = recvCell (peer c) i) ∨ g = barCell (peer c) := by
  unfold O₀ at h
  rw [Pi.add_apply, Finsupp.add_apply] at h
  rcases Nat.add_pos_iff_pos_or_pos.mp h with h | h
  · exact .inl (dueAll_pos h)
  · exact .inr (Pipeline.tallyAt_pos h).1

/-- A wait on a semaphore outside the protocol is allowed at the start (when everything is owed) and at the end. -/
theorem mayWait_stage (c : Dev nD) (q : DmaSem sig) (hq : ∀ i, SemLoc.dma q ≠ .dma (recvS i)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | rfl <;> exact Finset.mem_singleton_self _)
      (fun p hp => by rw [Finset.mem_singleton.mp hp]; dsimp only [lv]; rw [if_neg (fun h => by cases h), if_neg (fun ⟨i, h⟩ => hq i h)])
      (fun g u hg => by
        rcases O₀_pos hg with ⟨i, rfl⟩ | rfl
        · rw [lv_recv]; decide
        · rw [lv_bar]; decide)
  · rw [MayWait_zero]; iintro -; iempintro

/-- At its barrier wait a device owes receive credits only, which come after the barrier cell. -/
theorem mayWait_bar (c : Dev nD) : (levAts L lv : sProp 𝕄) ⊢ MayWait (c : Thread nD τ) (.reg barS) () (dueAll c) :=
  MayOwe.of_cut (L := L) (lev := lv) 1 (fun p hp => by rw [Finset.mem_singleton.mp hp, L_tc]; exact Finset.mem_singleton_self _)
    (fun g u hg => by obtain ⟨i, rfl⟩ := dueAll_pos hg; exact Finset.mem_singleton_self _)
    (fun p hp => by rw [Finset.mem_singleton.mp hp]; dsimp only [lv]; rw [if_pos rfl])
    (fun g u hg => by obtain ⟨i, rfl⟩ := dueAll_pos hg; rw [lv_recv]; decide)

end Cert.KernelIdealProof

end
-- ==== Proof.KernelIdealProof.Lanes.lean ====
/-
# One device's steps: the handshake, a transfer, a wait

For each step of the kernel's function that touches another device, the rule it satisfies: what the device must
hold before it and what it holds after it. A lane passes through four states: nothing sent (`idle`), sent
(`flying`), the peer's transfer received (`landed`), the own transfer finished (`drained`).
-/
module

public import proofs.«01_k».proof.Proof.KernelIdealProof.Protocol

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `p` to the postcondition `Q`. -/
abbrev wpB (c : Dev nD) (p : Pg F) (Q : PUnit → sProp 𝕄) : sProp 𝕄 :=
  wp frame (wpE (defs₀ (F := F)) 𝒱₀ (c : Thread nD τ) none) Set.univ p Q

/-- The invariant of every cell, and that every cell has reached round 0: facts that may be used any number of times. -/
def records (K : Dev nD × CI → ℕ) : sProp 𝕄 :=
  iprop((bigSep Finset.univ fun ck : Dev nD × CI => cellInv ER (rd m ρ) (K ck) (kcell ck))
    ∗ bigSep Finset.univ fun ck : Dev nD × CI => reached ER (kcell ck) 0)

instance records_persistent (K : Dev nD × CI → ℕ) : BI.Persistent (records m ρ K) := by unfold records; infer_instance

variable (K : Dev nD × CI → ℕ)

theorem inv_at (ck : Dev nD × CI) : records m ρ K ⊢ (cellInv ER (rd m ρ) (K ck) (kcell ck) : sProp 𝕄) := by
  have h : (bigSep Finset.univ fun ck : Dev nD × CI => (cellInv ER (rd m ρ) (K ck) (kcell ck) : sProp 𝕄)) ⊢ cellInv ER (rd m ρ) (K ck) (kcell ck) :=
    bigSep_elim (Finset.mem_univ ck)
  unfold records
  iintro ⟨H, -⟩
  iapply h; iexact H
theorem reached_at (ck : Dev nD × CI) : records m ρ K ⊢ (reached ER (kcell ck) 0 : sProp 𝕄) := by
  have h : (bigSep Finset.univ fun ck : Dev nD × CI => (reached ER (kcell ck) 0 : sProp 𝕄)) ⊢ reached ER (kcell ck) 0 := bigSep_elim (Finset.mem_univ ck)
  unfold records
  iintro ⟨-, H⟩
  iapply h; iexact H

/-- Device `c` owes `O`. -/
def owing (c : Dev nD) (O : CellTallies nD τ sig Unit) : sProp 𝕄 := iprop(∃ W, owes (c : Thread nD τ) O W)

/-! ## The states of a lane -/

def idle (c : Dev nD) (i : Lane) : sProp 𝕄 :=
  iprop(dutyTok ER (sendCell c i) 0 () ∗ dutyTok ER (recvCell (peer c) i) 0 () ∗ atPos ER (sendCell c i) 0 ∅ 0 ∗ atPos ER (recvCell c i) 0 ∅ 0
    ∗ cred (tallyAt (recvCell c i) () (amt i)))
def flying (c : Dev nD) (i : Lane) : sProp 𝕄 :=
  iprop(cred (tallyAt (sendCell c i) () (amt i)) ∗ atPos ER (sendCell c i) 0 ∅ 0 ∗ atPos ER (recvCell c i) 0 ∅ 0
    ∗ cred (tallyAt (recvCell c i) () (amt i)))
def landed (c : Dev nD) (i : Lane) : sProp 𝕄 :=
  iprop(cred (tallyAt (sendCell c i) () (amt i)) ∗ atPos ER (sendCell c i) 0 ∅ 0 ∗ semVal (recvCell c i) 0)
def drained (c : Dev nD) (i : Lane) : sProp 𝕄 := iprop(semVal (sendCell c i) 0 ∗ semVal (recvCell c i) 0)

/-! ## The rules -/

/-- The wait for a cell's one payment, whatever the wait instruction: the payment's goods and the cell closed at zero. -/
theorem wait_cell (c : Dev nD) (x : CI) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (csem x) k' Kt)
    (hk : k' = camt x) (O : CellTallies nD τ sig Unit) (rest : Pg F) (Q : PUnit → sProp 𝕄) :
    iprop(records m ρ K ∗ cred (tallyAt (kcell (c, x)) () (camt x)) ∗ owing c O ∗ MayWait (c : Thread nD τ) (csem x) () O ∗ atPos ER (kcell (c, x)) 0 ∅ 0)
      ⊢ iprop(((owing c O ∗ semVal (kcell (c, x)) 0 ∗ pay m ρ c x) -∗ wpB c rest Q) -∗ wpB c (.op w fun _ => rest) Q) := by
  subst hk
  unfold owing
  iintro ⟨#HR, Hc, ⟨%W, HO⟩, Hm, Hat⟩ Hk
  ihave #HI := (inv_at m ρ K (c, x)) $$ HR
  iapply (Rounds.wp_wait_rest_token 𝒱₀ ER (rd m ρ) (c : Thread nD τ) none (κ := K (c, x)) hw (Set.mem_univ _) () (O := O) (W := W)
    (R := 0) (m := 0) (T := ∅) (by rw [Nat.zero_add]; exact (expect_at m ρ c x).symm)) $$ [Hc HO Hm Hat]
  · isplitr; · iexact HI
    isplitl [Hc]; · iexact Hc
    isplitl [HO]; · iexact HO
    isplitl [Hm]; · iexact Hm
    iexact Hat
  iintro ⟨HO, Hat, -, Hpay⟩
  ihave Hpay := (Entails.of_eq (rest_at m ρ c x)) $$ Hpay
  imod (Rounds.cell_close ER (rd m ρ) (Set.mem_univ (K (c, x))) (fun h => h) (R := 0 + 1) (duties_later m ρ (kcell (c, x)))) $$ [Hat] with Hz
  · isplitr; · iexact HI
    iexact Hat
  iapply Hk
  isplitl [HO]; · iexists _; iexact HO
  isplitl [Hz] <;> iassumption

/-- A transfer on lane `i` to the peer, from a buffer held whole to a buffer of the peer's. -/
theorem send_lane (c n : Dev nD) (hn : n = peer c) (i : Lane) {s : Shape} {e : EltTy} {src dst : Memref sig .tc .vmem s e}
    {hsc : (dst : Memref sig (Dev.tc n : Thread nD τ).2.kind .vmem s e).view.ref.isScScratch = false}
    {hsrc : src.view.WordExact} {hdst : dst.view.WordExact}
    {hsem : DmaTarget.Typed .vmem (.dma (recvS i)) (.remote (Dev.tc n : Thread nD τ) dst (.dma (sendS i)) hsc)}
    {fs : Buf (Elt F) (src.view.loc (c : Thread nD τ))} {fd : Buf (Elt F) (dst.view.loc (peer c : Thread nD τ))}
    (hN : dst.view.amount (.dma (recvS i) : SemLoc sig) = amt i)
    (hp₁ : (src.view.loc (c : Thread nD τ) ↦[src.view.set]{fullShare} fs : sProp 𝕄) ⊢ sendPay c i)
    (hp₂ : (dst.view.loc (peer c : Thread nD τ) ↦[dst.view.set]{fullShare} (dst.view.write (Elt F) fd (src.view.read (Elt F) fs) Finset.univ) : sProp 𝕄)
      ⊢ recvPay m ρ (peer c) i)
    (O O' : CellTallies nD τ sig Unit) (hO : O = O' + tallyAt (recvCell (peer c) i) () (amt i)) (rest : Pg F) (Q : PUnit → sProp 𝕄) :
    iprop(records m ρ K ∗ idle c i ∗ (src.view.loc (c : Thread nD τ) ↦[src.view.set]{fullShare} fs)
        ∗ (dst.view.loc (peer c : Thread nD τ) ↦[dst.view.set]{fullShare} fd) ∗ owing c O)
      ⊢ iprop(((flying c i ∗ owing c O') -∗ wpB c rest Q)
          -∗ wpB c (.op (.enqueueDma src (.remote (Dev.tc n : Thread nD τ) dst (.dma (sendS i)) hsc) (.dma (recvS i)) hsrc hdst hsem) fun _ => rest) Q) := by
  subst hn
  unfold owing idle
  iintro ⟨#HR, ⟨Ht1, Ht2, Ha1, Ha2, Hc⟩, Hs, Hd, ⟨%W, HO⟩⟩ Hk
  ihave #HI1 := (inv_at m ρ K (c, some (false, i))) $$ HR
  ihave #HI2 := (inv_at m ρ K (peer c, some (true, i))) $$ HR
  ihave #HR1 := (reached_at m ρ K (c, some (false, i))) $$ HR
  ihave #HR2 := (reached_at m ρ K (peer c, some (true, i))) $$ HR
  iapply (Rounds.wp_send_pointsTo 𝒱₀ ER (rd m ρ) (c : Thread nD τ) none (κ₁ := K (c, some (false, i))) (κ₂ := K (peer c, some (true, i)))
    (r₁ := 0) (r₂ := 0) (d₁ := ()) (d₂ := ()) (fd := fd) (mem_duties m ρ c (some (false, i))) (mem_duties m ρ (peer c) (some (true, i))) () () (amt i) hN
    (amount_at m ρ c (some (false, i)) ()) (amount_at m ρ (peer c) (some (true, i)) ()) O' hO (W := W)
    (hp₁.trans (Entails.of_eq (payload_at m ρ c (some (false, i)) ()).symm)) (hp₂.trans (Entails.of_eq (payload_at m ρ (peer c) (some (true, i)) ()).symm)))
    $$ [Ht1 Ht2 Hs Hd HO]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hcs, HO⟩
  iapply Hk
  unfold flying
  isplitl [Hcs Ha1 Ha2 Hc]
  · isplitl [Hcs]; · iexact Hcs
    isplitl [Ha1]; · iexact Ha1
    isplitl [Ha2] <;> iassumption
  iexists W; iexact HO

/-- The signal's goods, from the signaller's landing buffers. -/
theorem bar_fill (c : Dev nD) :
    iprop((bigSep Finset.univ fun k : Fin 8 => iprop(∃ f, rqPts c k f)) ∗ ∃ f, srPts c f) ⊢ ((rd m ρ).payload (barCell (peer c)) 0 () : sProp 𝕄) := by
  rw [payload_at]
  show _ ⊢ barPay (peer c)
  unfold barPay; rw [peer_peer]

/-- The handshake: the device's landing buffers go to the peer, the peer's come back. -/
theorem hs_step (c n : Dev nD) (hn : n = peer c) (rest : Pg F) (Q : PUnit → sProp 𝕄) :
    iprop(records m ρ K ∗ dutyTok ER (barCell (peer c)) 0 () ∗ atPos ER (barCell c) 0 ∅ 0 ∗ cred (tallyAt (barCell c) () 1) ∗ levAts L lv ∗ owing c (O₀ c)
        ∗ (bigSep Finset.univ fun k : Fin 8 => iprop(∃ f, rqPts c k f)) ∗ ∃ f, srPts c f)
      ⊢ iprop(((owing c (dueAll c) ∗ semVal (barCell c) 0 ∗ (bigSep Finset.univ fun k : Fin 8 => iprop(∃ f, rqPts (peer c) k f)) ∗ ∃ f, srPts (peer c) f)
          -∗ wpB c rest Q) -∗ wpB c (hsStep n rest) Q) := by
  subst hn
  unfold hsStep
  iintro ⟨#HR, Ht, Hat, Hc, #Hlev, HO, Hrq, Hsr⟩ Hk
  ihave #HI := (inv_at m ρ K (peer c, none)) $$ HR
  ihave #HR1 := (reached_at m ρ K (peer c, none)) $$ HR
  unfold owing
  icases HO with ⟨%W, HO⟩
  iapply (Rounds.wp_signal 𝒱₀ ER (rd m ρ) (c : Thread nD τ) none (dst := (peer c : Thread nD τ)) (κ := K (peer c, none))
      (d := ()) (mem_duties m ρ (peer c) none) (amount_at m ρ (peer c) none ()) () (dueAll c) rfl) $$ [HO Ht Hrq Hsr]
  · isplitr; · iexact HI
    isplitl [HO]; · iexact HO
    isplitl [Ht]; · iexact Ht
    isplitl [Hrq Hsr]
    · iapply (bar_fill m ρ c)
      isplitl [Hrq] <;> iassumption
    iexact HR1
  iintro HO
  iapply (wait_cell m ρ K c none (wpE_semWait_eq 𝒱₀ (c : Thread nD τ) none Set.univ) rfl (dueAll c) rest Q) $$ [Hc HO Hat]
  · isplitr; · iexact HR
    isplitl [Hc]; · iexact Hc
    isplitl [HO]; · unfold owing; iexists W; iexact HO
    isplitr; · iapply (mayWait_bar c); iexact Hlev
    iexact Hat
  iintro ⟨HO, Hz, Hp⟩
  ihave Hp := (show pay m ρ c none ⊢ iprop((bigSep Finset.univ fun k : Fin 8 => iprop(∃ f, rqPts (peer c) k f)) ∗ ∃ f, srPts (peer c) f) from Entails.refl _) $$ Hp
  icases Hp with ⟨Hrq, Hsr⟩
  iapply Hk
  isplitl [HO]; · unfold owing; iexact HO
  isplitl [Hz]; · iexact Hz
  isplitl [Hrq] <;> iassumption

/-- The wait for the peer's transfer on lane `i`, owing nothing. -/
theorem recv_lane (c : Dev nD) (i : Lane) {s : Shape} {e : EltTy} {src dst : Memref sig .tc .vmem s e} {hsrc : src.view.WordExact} {hdst : dst.view.WordExact}
    (hN : dst.view.dmaCredit = amt i) (rest : Pg F) (Q : PUnit → sProp 𝕄) :
    iprop(records m ρ K ∗ flying c i ∗ owing c 0)
      ⊢ iprop(((landed c i ∗ owing c 0 ∗ recvPay m ρ c i) -∗ wpB c rest Q)
          -∗ wpB c (.op (.waitDma2 (recvS i) src dst hsrc hdst) fun _ => rest) Q) := by
  unfold flying
  iintro ⟨#HR, ⟨Hcs, Ha1, Ha2, Hc⟩, HO⟩ Hk
  iapply (wait_cell m ρ K c (some (true, i)) (wpE_waitDma2_eq 𝒱₀ (c : Thread nD τ) none Set.univ) hN 0 rest Q) $$ [Hc HO Ha2]
  · isplitr; · iexact HR
    isplitl [Hc]; · iexact Hc
    isplitl [HO]; · iexact HO
    isplitr; · rw [MayWait_zero]; iempintro
    iexact Ha2
  iintro ⟨HO, Hz, Hp⟩
  ihave Hp := (show pay m ρ c (some (true, i)) ⊢ recvPay m ρ c i from Entails.refl _) $$ Hp
  iapply Hk
  unfold landed
  isplitl [Hcs Ha1 Hz]
  · isplitl [Hcs]; · iexact Hcs
    isplitl [Ha1] <;> iassumption
  isplitl [HO]; · iexact HO
  iexact Hp

/-- The wait for the own transfer on lane `i` to have left, owing nothing. -/
theorem drain_lane (c : Dev nD) (i : Lane) {s : Shape} {e : EltTy} {src dst : Memref sig .tc .vmem s e} {hsrc : src.view.WordExact} {hdst : dst.view.WordExact}
    (hN : dst.view.dmaCredit = amt i) (rest : Pg F) (Q : PUnit → sProp 𝕄) :
    iprop(records m ρ K ∗ landed c i ∗ owing c 0)
      ⊢ iprop(((drained c i ∗ owing c 0 ∗ sendPay c i) -∗ wpB c rest Q)
          -∗ wpB c (.op (.waitDma2 (sendS i) src dst hsrc hdst) fun _ => rest) Q) := by
  unfold landed
  iintro ⟨#HR, ⟨Hc, Ha, Hz'⟩, HO⟩ Hk
  iapply (wait_cell m ρ K c (some (false, i)) (wpE_waitDma2_eq 𝒱₀ (c : Thread nD τ) none Set.univ) hN 0 rest Q) $$ [Hc HO Ha]
  · isplitr; · iexact HR
    isplitl [Hc]; · iexact Hc
    isplitl [HO]; · iexact HO
    isplitr; · rw [MayWait_zero]; iempintro
    iexact Ha
  iintro ⟨HO, Hz, Hp⟩
  ihave Hp := (show pay m ρ c (some (false, i)) ⊢ sendPay c i from Entails.refl _) $$ Hp
  iapply Hk
  unfold drained
  isplitl [Hz Hz']
  · isplitl [Hz] <;> iassumption
  isplitl [HO]; · iexact HO
  iexact Hp

end Cert.KernelIdealProof

end
-- ==== Proof.KernelIdealProof.Chunks.lean ====
/-
# One chunk's steps

The rules of the steps of a chunk: quantise and send it, wait for the peer's chunk and compute the result's rows
from it, wait until the own chunk has left. And the same for the row of scales.
-/
module

public import proofs.«01_k».proof.Proof.KernelIdealProof.Lanes

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-! ## The views -/

theorem sqS_set (k : Fin 8) : (sqS k : Memref sig .tc .vmem S128x1024 .i8).view.set = (qR k).set :=
  (View.set_reshape _ _).trans (View.set_slice_whole cc0_scratch0 (qR k))
theorem rqS_set (k : Fin 8) : (rqS k : Memref sig .tc .vmem S128x1024 .i8).view.set = (qR k).set :=
  (View.set_reshape _ _).trans (View.set_slice_whole cc0_scratch1 (qR k))
theorem whole_setOn (b : Ref sig .tc) (M : Finset b.ty.shape.Idx) : (View.whole b : View sig .tc _ _ _).setOn M = M := by
  ext i; unfold View.setOn
  rw [Finset.mem_map]
  exact ⟨fun ⟨x, hx, hi⟩ => hi ▸ hx, fun h => ⟨i, h, rfl⟩⟩

/-- A chunk stored is the chunk held. -/
theorem sq_stored (k : Fin 8) (f : (cc0_scratch0 : Ref sig .tc).ty.Contents (Elt F)) (w : Vec F S1x128x1024 .i8) :
    SqHolds k (((sqM : Memref sig .tc .vmem S8x128x1024 .i8).access (qR k)).write (Elt F) f w Finset.univ) w :=
  View.read_write_univ (v := (sqM : Memref sig .tc .vmem S8x128x1024 .i8).access (qR k)) f w
/-- A chunk sent is the chunk received. -/
theorem rq_sent (k : Fin 8) (fd : (cc0_scratch1 : Ref sig .tc).ty.Contents (Elt F)) (fs : (cc0_scratch0 : Ref sig .tc).ty.Contents (Elt F))
    (w : Vec F S1x128x1024 .i8) (h : SqHolds k fs w) :
    RqHolds k ((rqS k : Memref sig .tc .vmem S128x1024 .i8).view.write (Elt F) fd ((sqS k : Memref sig .tc .vmem S128x1024 .i8).view.read (Elt F) fs) Finset.univ) w := by
  funext x
  obtain ⟨y, rfl⟩ := (Shape.reshapeEquiv squeezes_S1x128x1024_S128x1024.numel_eq).surjective x
  exact (congrFun (View.read_write_univ (v := (rqS k : Memref sig .tc .vmem S128x1024 .i8).view) fd ((sqS k : Memref sig .tc .vmem S128x1024 .i8).view.read (Elt F) fs)) y).trans
    (congrFun h (Shape.reshapeEquiv squeezes_S1x128x1024_S128x1024.numel_eq y))

/-! ## The staging buffers held -/

def pPts (c : Dev nD) : sProp 𝕄 := ((c : Thread nD τ).loc cc0_stg0_0) ↦{fullShare} xstg m ρ c
def gPts (c : Dev nD) : sProp 𝕄 := ((c : Thread nD τ).loc cc0_stg1_0) ↦{fullShare} gstg m ρ c
def oPts (c : Dev nD) (f : Buf (Elt F) ((c : Thread nD τ).loc cc0_stg2_0)) : sProp 𝕄 := ((c : Thread nD τ).loc cc0_stg2_0) ↦{fullShare} f

/-- Loading a chunk of the peer's half. -/
theorem load_step (c : Dev nD) (k : Fin 8) (rest : Vec F S1x128x1024 .f32 → Pg F) (Q : PUnit → sProp 𝕄) :
    pPts m ρ c ⊢ iprop((pPts m ρ c -∗ wpB c (rest (peerChunk m ρ c k)) Q) -∗ wpB c (loadStep c k rest) Q) := by
  unfold loadStep pPts peerChunk
  exact wp_load 𝒱₀ (c : Thread nD τ) none Set.univ (m := pM) (Finset.subset_univ _)

/-- Sending a chunk the buffer holds. -/
theorem send_chunk (c : Dev nD) (k : Fin 8) (fs : Buf (Elt F) ((c : Thread nD τ).loc cc0_scratch0)) (h : SqHolds k fs (qChunk m ρ c k))
    (rest : Pg F) (Q : PUnit → sProp 𝕄) :
    iprop(records m ρ K ∗ idle c k.castSucc ∗ sqPts c k fs ∗ (∃ f, rqPts (peer c) k f) ∗ owing c (due c k.val))
      ⊢ iprop(((flying c k.castSucc ∗ owing c (due c (k.val + 1))) -∗ wpB c rest Q) -∗ wpB c (sendChunk (peer c) k rest) Q) := by
  iintro ⟨#HR, Hi, Hs, ⟨%fd, Hd⟩, HO⟩
  unfold sendChunk sqPts rqPts
  iapply (send_lane m ρ K c (peer c) rfl k.castSucc (fs := fs) (fd := fd) (amt_chunk k).symm
    (by rw [sendPay_chunk]; iintro H; iexists fs; unfold sqPts; iexact H)
    (by
      rw [recvPay_chunk, peer_peer]
      iintro H; iexists _
      isplitr
      · ipureintro; exact rq_sent k fd fs _ h
      · unfold rqPts; iexact H)
    (due c k.val) (due c (k.val + 1)) (due_step c k)) $$ [Hi Hs Hd HO]
  isplitr; · iexact HR
  isplitl [Hi]; · iexact Hi
  isplitl [Hs]; · iexact Hs
  isplitl [Hd]; · iexact Hd
  iexact HO

/-- Quantising and sending a chunk. -/
theorem quant_step (c : Dev nD) (k : Fin 8) (rest : Pg F) (Q : PUnit → sProp 𝕄) :
    iprop((idle c k.castSucc ∗ (∃ f, sqPts c k f) ∗ ∃ f, rqPts (peer c) k f) ∗ records m ρ K ∗ pPts m ρ c ∗ owing c (due c k.val))
      ⊢ iprop(((flying c k.castSucc ∗ records m ρ K ∗ pPts m ρ c ∗ owing c (due c (k.val + 1))) -∗ wpB c rest Q)
          -∗ wpB c (quantStep c (peer c) k (peerChunk m ρ c k) rest) Q) := by
  unfold quantStep
  iintro ⟨⟨Hi, ⟨%fs, Hs⟩, Hd⟩, #HR, Hp, HO⟩ Hk
  iapply (load_step m ρ c k) $$ Hp
  iintro Hp
  unfold storeChunk
  ihave Hs := (show sqPts c k fs ⊢ _ from Entails.of_eq (by unfold sqPts; rfl)) $$ Hs
  iapply (wp_load 𝒱₀ (c : Thread nD τ) none Set.univ (m := sqM) (r := (qR k).toLoadRect) (f := fs)
    (S := (sqS k : Memref sig .tc .vmem S128x1024 .i8).view.set) (by rw [whole_setOn]; exact (sqS_set k).ge)) $$ Hs
  iintro Hs
  iapply (wp_store 𝒱₀ (c : Thread nD τ) none Set.univ (m := sqM) (r := qR k) (Mk := Finset.univ) (f := fs)
    (S := (sqS k : Memref sig .tc .vmem S128x1024 .i8).view.set)
    (by rw [View.setOn_univ]; exact ((View.set_slice_whole cc0_scratch0 (qR k)).trans (sqS_set k).symm).le)) $$ Hs
  iintro Hs
  iapply (send_chunk m ρ K c k _ (sq_stored k fs (qChunk m ρ c k)) rest Q) $$ [Hi Hs Hd HO]
  · isplitr; · iexact HR
    isplitl [Hi]; · iexact Hi
    isplitl [Hs]; · unfold sqPts; iexact Hs
    isplitl [Hd]; · iexact Hd
    iexact HO
  iintro ⟨Hf, HO⟩
  iapply Hk
  isplitl [Hf]; · iexact Hf
  isplitr; · iexact HR
  isplitl [Hp] <;> iassumption

/-- Sending the row of scales. -/
theorem send_scales (c : Dev nD) (rest : Pg F) (Q : PUnit → sProp 𝕄) :
    iprop(records m ρ K ∗ idle c 8 ∗ ssPts c (scales m ρ c) ∗ (∃ f, srPts (peer c) f) ∗ owing c (dueAll c))
      ⊢ iprop(((flying c 8 ∗ owing c (due c 0)) -∗ wpB c rest Q) -∗ wpB c (sendScales (peer c) rest) Q) := by
  iintro ⟨#HR, Hi, Hs, ⟨%fd, Hd⟩, HO⟩
  unfold sendScales ssPts srPts
  iapply (send_lane m ρ K c (peer c) rfl 8 (fs := scales m ρ c) (fd := fd) amt_scales.symm
    (by rw [sendPay_scales]; iintro H; iexists _; unfold ssPts; iexact H)
    (by
      rw [recvPay_scales, peer_peer]; unfold srPts
      refine Entails.of_eq (congrArg _ ?_)
      show (View.whole cc0_scratch3).write (Elt F) fd ((View.whole cc0_scratch2).read (Elt F) (scales m ρ c)) Finset.univ = scales m ρ c
      rw [View.read_whole]
      exact View.write_whole_univ _ _ _)
    (dueAll c) (due c 0) rfl) $$ [Hi Hs Hd HO]
  isplitr; · iexact HR
  isplitl [Hi]; · iexact Hi
  isplitl [Hs]; · iexact Hs
  isplitl [Hd]; · iexact Hd
  iexact HO

/-- Storing and sending the row of scales. -/
theorem scales_step (c : Dev nD) (rest : Pg F) (Q : PUnit → sProp 𝕄) :
    iprop((idle c 8 ∗ (∃ f, ssPts c f) ∗ ∃ f, srPts (peer c) f) ∗ records m ρ K ∗ owing c (dueAll c))
      ⊢ iprop(((flying c 8 ∗ records m ρ K ∗ owing c (due c 0)) -∗ wpB c rest Q)
          -∗ wpB c (storeScales (scales m ρ c) <| sendScales (peer c) rest) Q) := by
  iintro ⟨⟨Hi, ⟨%fs, Hs⟩, Hd⟩, #HR, HO⟩ Hk
  unfold storeScales
  ihave Hs := (show ssPts c fs ⊢ _ from Entails.of_eq (by unfold ssPts; rfl)) $$ Hs
  iapply (wp_load 𝒱₀ (c : Thread nD τ) none Set.univ (m := ssM) (r := sR.toLoadRect) (f := fs)
    (S := (ssM : Memref sig .tc .vmem S1x128 .f32).view.set) (by rw [View.set_whole]; exact Finset.subset_univ _)) $$ Hs
  iintro Hs
  iapply (wp_store 𝒱₀ (c : Thread nD τ) none Set.univ (m := ssM) (r := sR) (Mk := Finset.univ) (f := fs)
    (S := (ssM : Memref sig .tc .vmem S1x128 .f32).view.set) (by rw [View.set_whole]; exact Finset.subset_univ _)) $$ Hs
  iintro Hs
  rw [show ((ssM : Memref sig .tc .vmem S1x128 .f32).access sR : View sig .tc _ _ _).write (Elt F) fs (scales m ρ c) Finset.univ = scales m ρ c from
    Memref.write_access_unit_zero_univ (Elt F) cc0_scratch2 (funext fun a => by fin_cases a <;> rfl) _ fs (scales m ρ c)]
  iapply (send_scales m ρ K c rest Q) $$ [Hi Hs Hd HO]
  · isplitr; · iexact HR
    isplitl [Hi]; · iexact Hi
    isplitl [Hs]; · unfold ssPts; iexact Hs
    isplitl [Hd]; · iexact Hd
    iexact HO
  iintro ⟨Hf, HO⟩
  iapply Hk
  isplitl [Hf]; · iexact Hf
  isplitr; · iexact HR
  iexact HO

/-! ## The result's rows -/

/-- The rows of the first `k` chunks are in place. -/
def Filled (c : Dev nD) (k : ℕ) (f : (cc0_stg2_0 : Ref sig .tc).ty.Contents (Elt F)) : Prop :=
  ∀ i : S1024x1024.Idx, (i 0).val < 128 * k → f i = outAt m ρ c i

theorem filled_zero (c : Dev nD) (f : (cc0_stg2_0 : Ref sig .tc).ty.Contents (Elt F)) : Filled m ρ c 0 f := fun i h => absurd h (by omega)
theorem filled_all (c : Dev nD) (f : (cc0_stg2_0 : Ref sig .tc).ty.Contents (Elt F)) (h : Filled m ρ c 8 f) : f = outAt m ρ c :=
  funext fun i => h i (i 0).isLt

/-- Storing the rows of chunk `k` extends them. -/
theorem filled_succ (c : Dev nD) (k : Fin 8) (f : (cc0_stg2_0 : Ref sig .tc).ty.Contents (Elt F)) (h : Filled m ρ c k.val f) :
    Filled m ρ c (k.val + 1) (((oM : Memref sig .tc .vmem S1024x1024 .f32).access (oR k)).write (Elt F) f (rowsAt m ρ c k) Finset.univ) := by
  intro i hi
  by_cases hlt : (i 0).val < 128 * k.val
  · rw [View.write_of_not_mem (v := (oM : Memref sig .tc .vmem S1024x1024 .f32).access (oR k))]
    · exact h i hlt
    · rw [View.setOn_univ, show ((oM : Memref sig .tc .vmem S1024x1024 .f32).access (oR k)).set = (oR k).set from View.set_slice_whole cc0_stg2_0 (oR k),
        Rect.mem_set_unit]
      intro hm
      have := (hm 0).1
      simp at this
      omega
  · have hdiv : (i 0).val / 128 = k.val := by omega
    let x : (oR k).shape.Idx := fun a => match a with
      | ⟨0, _⟩ => ⟨(i 0).val % 128, Nat.mod_lt _ (by decide)⟩
      | ⟨1, _⟩ => ⟨(i 1).val, (i 1).isLt⟩
    have hx : ((oM : Memref sig .tc .vmem S1024x1024 .f32).access (oR k)).emb x = i := by
      show (oR k).emb x = i
      funext a
      apply Fin.ext
      match a with
      | ⟨0, _⟩ =>
        show 128 * k.val + 1 * ((i 0).val % 128) = (i 0).val
        omega
      | ⟨1, _⟩ =>
        show 0 + 1 * (i 1).val = (i 1).val
        omega
    have hk : (⟨(i 0).val / 128, Nat.div_lt_of_lt_mul (i 0).isLt⟩ : Fin 8) = k := Fin.ext hdiv
    have hw := View.write_emb_of_mem (v := (oM : Memref sig .tc .vmem S1024x1024 .f32).access (oR k)) (Val := Elt F) f (rowsAt m ρ c k) (Finset.mem_univ x)
    rw [hx] at hw
    refine hw.trans ?_
    show rowsAt m ρ c k x = outAt m ρ c i
    unfold outAt
    rw [hk]
    exact congrArg _ (funext fun a => match a with | ⟨0, _⟩ => rfl | ⟨1, _⟩ => rfl)

/-- Waiting for the peer's chunk, then computing and storing the result's rows. -/
theorem rows_step (c : Dev nD) (k : Fin 8) (rest : Pg F) (Q : PUnit → sProp 𝕄) :
    iprop(flying c k.castSucc ∗ records m ρ K ∗ pPts m ρ c ∗ gPts m ρ c ∗ srPts c (scales m ρ (peer c)) ∗ (∃ f, ⌜Filled m ρ c k.val f⌝ ∗ oPts c f) ∗ owing c 0)
      ⊢ iprop((((landed c k.castSucc ∗ ∃ f, rqPts c k f) ∗ records m ρ K ∗ pPts m ρ c ∗ gPts m ρ c ∗ srPts c (scales m ρ (peer c))
            ∗ (∃ f, ⌜Filled m ρ c (k.val + 1) f⌝ ∗ oPts c f) ∗ owing c 0) -∗ wpB c rest Q)
          -∗ wpB c (waitChunk k <| rowsStep c k rest) Q) := by
  iintro ⟨Hf, #HR, Hp, Hg, Hsr, ⟨%f, %hf, Hout⟩, HO⟩ Hk
  unfold waitChunk
  iapply (recv_lane m ρ K c k.castSucc (amt_chunk k).symm) $$ [Hf HO]
  · isplitr; · iexact HR
    isplitl [Hf] <;> iassumption
  iintro ⟨Hl, HO, Hpay⟩
  ihave Hpay := (Entails.of_eq (recvPay_chunk m ρ c k)) $$ Hpay
  icases Hpay with ⟨%fq, %hq, Hq⟩
  unfold rowsStep pPts gPts srPts rqPts oPts
  iapply (wp_load 𝒱₀ (c : Thread nD τ) none Set.univ (m := srM) (r := (lR k).toLoadRect) (by rw [View.set_whole]; exact Finset.subset_univ _)) $$ Hsr
  iintro Hsr
  iapply (wp_load 𝒱₀ (c : Thread nD τ) none Set.univ (m := pM) (r := (ownR c k).toLoadRect) (Finset.subset_univ _)) $$ Hp
  iintro Hp
  iapply (wp_load 𝒱₀ (c : Thread nD τ) none Set.univ (m := rqM) (r := (qR k).toLoadRect) (by rw [whole_setOn]; exact (rqS_set k).ge)) $$ Hq
  iintro Hq
  rw [show (rqM : Memref sig .tc .vmem S8x128x1024 .i8).view.readAt (Elt F) (qR k).toLoadRect fq = qChunk m ρ (peer c) k from hq]
  iapply (wp_load 𝒱₀ (c : Thread nD τ) none Set.univ (m := gM) (r := gR.toLoadRect) (Finset.subset_univ _)) $$ Hg
  iintro Hg
  iapply (wp_load 𝒱₀ (c : Thread nD τ) none Set.univ (m := oM) (r := (oR k).toLoadRect) (Finset.subset_univ _)) $$ Hout
  iintro Hout
  iapply (wp_store 𝒱₀ (c : Thread nD τ) none Set.univ (m := oM) (r := oR k) (Mk := Finset.univ) (Finset.subset_univ _)) $$ Hout
  iintro Hout
  iapply Hk
  isplitl [Hl Hq]
  · isplitl [Hl]; · iexact Hl
    iexists _; iexact Hq
  isplitr; · iexact HR
  isplitl [Hp]; · iexact Hp
  isplitl [Hg]; · iexact Hg
  isplitl [Hsr]; · iexact Hsr
  isplitl [Hout]
  · iexists _
    isplitr
    · ipureintro; exact filled_succ m ρ c k f hf
    · iexact Hout
  iexact HO

/-- Waiting for the peer's row of scales. -/
theorem waitScales_step (c : Dev nD) (rest : Pg F) (Q : PUnit → sProp 𝕄) :
    iprop(flying c 8 ∗ records m ρ K ∗ owing c 0)
      ⊢ iprop(((landed c 8 ∗ records m ρ K ∗ owing c 0 ∗ srPts c (scales m ρ (peer c))) -∗ wpB c rest Q) -∗ wpB c (waitScales rest) Q) := by
  iintro ⟨Hf, #HR, HO⟩ Hk
  unfold waitScales
  iapply (recv_lane m ρ K c 8 amt_scales.symm) $$ [Hf HO]
  · isplitr; · iexact HR
    isplitl [Hf] <;> iassumption
  iintro ⟨Hl, HO, Hpay⟩
  ihave Hpay := (Entails.of_eq (recvPay_scales m ρ c)) $$ Hpay
  iapply Hk
  isplitl [Hl]; · iexact Hl
  isplitr; · iexact HR
  isplitl [HO] <;> iassumption

/-- Waiting until the row of scales has left. -/
theorem drainScales_step (c : Dev nD) (rest : Pg F) (Q : PUnit → sProp 𝕄) :
    iprop(landed c 8 ∗ records m ρ K ∗ owing c 0)
      ⊢ iprop((((drained c 8 ∗ ∃ f, ssPts c f) ∗ records m ρ K ∗ owing c 0) -∗ wpB c rest Q) -∗ wpB c (drainScales rest) Q) := by
  iintro ⟨Hf, #HR, HO⟩ Hk
  unfold drainScales
  iapply (drain_lane m ρ K c 8 amt_scales'.symm) $$ [Hf HO]
  · isplitr; · iexact HR
    isplitl [Hf] <;> iassumption
  iintro ⟨Hl, HO, Hpay⟩
  ihave Hpay := (Entails.of_eq (sendPay_scales c)) $$ Hpay
  iapply Hk
  isplitl [Hl Hpay]
  · isplitl [Hl] <;> iassumption
  isplitr; · iexact HR
  iexact HO

/-- Waiting until a chunk has left. -/
theorem drain_step (c : Dev nD) (k : Fin 8) (rest : Pg F) (Q : PUnit → sProp 𝕄) :
    iprop((landed c k.castSucc ∗ ∃ f, rqPts c k f) ∗ records m ρ K ∗ owing c 0)
      ⊢ iprop((((drained c k.castSucc ∗ (∃ f, sqPts c k f) ∗ ∃ f, rqPts c k f) ∗ records m ρ K ∗ owing c 0) -∗ wpB c rest Q) -∗ wpB c (drainChunk k rest) Q) := by
  iintro ⟨⟨Hf, Hq⟩, #HR, HO⟩ Hk
  unfold drainChunk
  iapply (drain_lane m ρ K c k.castSucc (amt_chunk' k).symm) $$ [Hf HO]
  · isplitr; · iexact HR
    isplitl [Hf] <;> iassumption
  iintro ⟨Hl, HO, Hpay⟩
  ihave Hpay := (Entails.of_eq (sendPay_chunk c k)) $$ Hpay
  iapply Hk
  isplitl [Hl Hpay Hq]
  · isplitl [Hl]; · iexact Hl
    isplitl [Hpay] <;> iassumption
  isplitr; · iexact HR
  iexact HO

end Cert.KernelIdealProof

end
-- ==== Proof.KernelIdealProof.Body.lean ====
/-
# The kernel's function on one device

The steps of the chunks chained, and the whole function run from the launch's goods to the result staged and every
semaphore back at zero.
-/
module

public import proofs.«01_k».proof.Proof.KernelIdealProof.Chunks
public import Idealize.ShloMosaic.Lib.Ring

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-! ## Eight steps in a row -/

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A family over the nine lanes is the family over the eight chunks' lanes and the scales' lane. -/
theorem bigSep_lane (Φ : Lane → sProp 𝕄) :
    bigSep Finset.univ Φ = iprop((bigSep Finset.univ fun k : Fin 8 => Φ k.castSucc) ∗ Φ 8) := by
  rw [bigSep_univ_equiv (finSumFinEquiv : Fin 8 ⊕ Fin 1 ≃ Fin 9) Φ, bigSep_univ_sum, bigSep_univ_of_subsingleton (0 : Fin 1)]
  rfl

/-- One step per chunk, in order. -/
def chain (f : Fin 8 → Pg F → Pg F) (rest : Pg F) : Pg F :=
  f 0 <| f 1 <| f 2 <| f 3 <| f 4 <| f 5 <| f 6 <| f 7 rest

/-- If the step of chunk `k` turns `A k` into `B k` and carries `T k` to `T (k + 1)`, the chain turns all of `A` into all of
    `B` and carries `T 0` to `T 8`. -/
theorem chain_rule (c : Dev nD) (f : Fin 8 → Pg F → Pg F) (A B : Fin 8 → sProp 𝕄) (T : ℕ → sProp 𝕄) (Q : PUnit → sProp 𝕄)
    (h : ∀ (k : Fin 8) (rest : Pg F), iprop(A k ∗ T k.val) ⊢ iprop(((B k ∗ T (k.val + 1)) -∗ wpB c rest Q) -∗ wpB c (f k rest) Q)) (rest : Pg F) :
    iprop((bigSep Finset.univ A) ∗ T 0) ⊢ iprop((((bigSep Finset.univ B) ∗ T 8) -∗ wpB c rest Q) -∗ wpB c (chain f rest) Q) := by
  rw [bigSep_fin8, bigSep_fin8]
  have h0 : ∀ rest : Pg F, iprop(A 0 ∗ T 0) ⊢ iprop(((B 0 ∗ T 1) -∗ wpB c rest Q) -∗ wpB c (f 0 rest) Q) := h 0
  have h1 : ∀ rest : Pg F, iprop(A 1 ∗ T 1) ⊢ iprop(((B 1 ∗ T 2) -∗ wpB c rest Q) -∗ wpB c (f 1 rest) Q) := h 1
  have h2 : ∀ rest : Pg F, iprop(A 2 ∗ T 2) ⊢ iprop(((B 2 ∗ T 3) -∗ wpB c rest Q) -∗ wpB c (f 2 rest) Q) := h 2
  have h3 : ∀ rest : Pg F, iprop(A 3 ∗ T 3) ⊢ iprop(((B 3 ∗ T 4) -∗ wpB c rest Q) -∗ wpB c (f 3 rest) Q) := h 3
  have h4 : ∀ rest : Pg F, iprop(A 4 ∗ T 4) ⊢ iprop(((B 4 ∗ T 5) -∗ wpB c rest Q) -∗ wpB c (f 4 rest) Q) := h 4
  have h5 : ∀ rest : Pg F, iprop(A 5 ∗ T 5) ⊢ iprop(((B 5 ∗ T 6) -∗ wpB c rest Q) -∗ wpB c (f 5 rest) Q) := h 5
  have h6 : ∀ rest : Pg F, iprop(A 6 ∗ T 6) ⊢ iprop(((B 6 ∗ T 7) -∗ wpB c rest Q) -∗ wpB c (f 6 rest) Q) := h 6
  have h7 : ∀ rest : Pg F, iprop(A 7 ∗ T 7) ⊢ iprop(((B 7 ∗ T 8) -∗ wpB c rest Q) -∗ wpB c (f 7 rest) Q) := h 7
  unfold chain
  iintro ⟨⟨A0, A1, A2, A3, A4, A5, A6, A7⟩, HT⟩ Hk
  iapply (h0 _) $$ [A0 HT]
  · isplitl [A0] <;> iassumption
  iintro ⟨B0, HT⟩
  iapply (h1 _) $$ [A1 HT]
  · isplitl [A1] <;> iassumption
  iintro ⟨B1, HT⟩
  iapply (h2 _) $$ [A2 HT]
  · isplitl [A2] <;> iassumption
  iintro ⟨B2, HT⟩
  iapply (h3 _) $$ [A3 HT]
  · isplitl [A3] <;> iassumption
  iintro ⟨B3, HT⟩
  iapply (h4 _) $$ [A4 HT]
  · isplitl [A4] <;> iassumption
  iintro ⟨B4, HT⟩
  iapply (h5 _) $$ [A5 HT]
  · isplitl [A5] <;> iassumption
  iintro ⟨B5, HT⟩
  iapply (h6 _) $$ [A6 HT]
  · isplitl [A6] <;> iassumption
  iintro ⟨B6, HT⟩
  iapply (h7 _) $$ [A7 HT]
  · isplitl [A7] <;> iassumption
  iintro ⟨B7, HT⟩
  iapply Hk
  isplitr [HT]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  · iexact HT

/-- The function after the maxima, as three chains. -/
theorem afterMax_eq (c : Dev nD) (v : Fin 8 → Vec F S1x128x1024 .f32) :
    afterMax c v = (storeScales (scaleRow v) <| sendScales (peer c) <| chain (fun k r => quantStep c (peer c) k (v k) r) <|
      waitScales <| chain (fun k r => waitChunk k <| rowsStep c k r) <| drainScales <| chain (fun k r => drainChunk k r) <| .ret ⟨⟩) := by
  unfold afterMax
  rw [dev2_eq c, dev3_eq c, dev4_eq c, dev5_eq c, dev6_eq c, dev7_eq c, dev8_eq c, dev9_eq c, dev10_eq c]
  rfl

/-! ## The buffers of the chunks, whole and in pieces -/

theorem qR_disj (k k' : Fin 8) (h : k ≠ k') : Disjoint (qR k).set (qR k').set :=
  Rect.unit_disjoint (s := S8x128x1024) 0 (by
    have : k.val ≠ k'.val := fun e => h (Fin.ext e)
    show k.val + 1 ≤ k'.val ∨ k'.val + 1 ≤ k.val
    omega)
theorem qR_cover : Finset.univ.biUnion (fun k : Fin 8 => (qR k).set) = (Finset.univ : Finset S8x128x1024.Idx) := by
  ext i
  simp only [Finset.mem_biUnion, Finset.mem_univ, true_and, iff_true]
  refine ⟨i 0, Rect.mem_set_unit.mpr fun a => ?_⟩
  match a with
  | ⟨0, _⟩ => exact ⟨le_refl _, Nat.lt_succ_self _⟩
  | ⟨1, _⟩ => exact ⟨Nat.zero_le _, (i 1).isLt.trans_le (by show 128 ≤ 0 + 128; omega)⟩
  | ⟨2, _⟩ => exact ⟨Nat.zero_le _, (i 2).isLt.trans_le (by show 1024 ≤ 0 + 1024; omega)⟩

/-- The chunks' buffers, held whole, -/
def sqAll (c : Dev nD) : sProp 𝕄 := iprop(∃ f : Buf (Elt F) ((c : Thread nD τ).loc cc0_scratch0), ((c : Thread nD τ).loc cc0_scratch0) ↦{fullShare} f)
def rqAll (c : Dev nD) : sProp 𝕄 := iprop(∃ f : Buf (Elt F) ((c : Thread nD τ).loc cc0_scratch1), ((c : Thread nD τ).loc cc0_scratch1) ↦{fullShare} f)
def ssAll (c : Dev nD) : sProp 𝕄 := iprop(∃ f : Buf (Elt F) ((c : Thread nD τ).loc cc0_scratch2), ((c : Thread nD τ).loc cc0_scratch2) ↦{fullShare} f)
def srAll (c : Dev nD) : sProp 𝕄 := iprop(∃ f : Buf (Elt F) ((c : Thread nD τ).loc cc0_scratch3), ((c : Thread nD τ).loc cc0_scratch3) ↦{fullShare} f)

theorem sqPts_eq (c : Dev nD) (k : Fin 8) (f : Buf (Elt F) ((c : Thread nD τ).loc cc0_scratch0)) :
    sqPts c k f = (((c : Thread nD τ).loc cc0_scratch0) ↦[(qR k).set]{fullShare} f : sProp 𝕄) := by unfold sqPts; rw [sqS_set]
theorem rqPts_eq (c : Dev nD) (k : Fin 8) (f : Buf (Elt F) ((c : Thread nD τ).loc cc0_scratch1)) :
    rqPts c k f = (((c : Thread nD τ).loc cc0_scratch1) ↦[(qR k).set]{fullShare} f : sProp 𝕄) := by unfold rqPts; rw [rqS_set]
theorem ssPts_eq (c : Dev nD) (f : Buf (Elt F) ((c : Thread nD τ).loc cc0_scratch2)) :
    ssPts c f = (((c : Thread nD τ).loc cc0_scratch2) ↦{fullShare} f : sProp 𝕄) := by unfold ssPts; rw [View.set_whole]
theorem srPts_eq (c : Dev nD) (f : Buf (Elt F) ((c : Thread nD τ).loc cc0_scratch3)) :
    srPts c f = (((c : Thread nD τ).loc cc0_scratch3) ↦{fullShare} f : sProp 𝕄) := by unfold srPts; rw [View.set_whole]

/-- are held chunk by chunk, and back. -/
theorem sq_split (c : Dev nD) : (sqAll c : sProp 𝕄) ⊢ bigSep Finset.univ fun k : Fin 8 => iprop(∃ f, sqPts c k f) := by
  unfold sqAll
  iintro ⟨%f, H⟩
  ihave H := (Entails.of_eq (Ring.pointsTo_blocks (fun k : Fin 8 => (qR k).set) qR_disj qR_cover f)) $$ H
  have h1 (k : Fin 8) : (((c : Thread nD τ).loc cc0_scratch0) ↦[(qR k).set]{fullShare} f : sProp 𝕄) ⊢ iprop(∃ f, sqPts c k f) := by
    iintro H; iexists f; rw [sqPts_eq]; iexact H
  have h : (bigSep Finset.univ fun k : Fin 8 => (((c : Thread nD τ).loc cc0_scratch0) ↦[(qR k).set]{fullShare} f : sProp 𝕄))
      ⊢ bigSep Finset.univ fun k : Fin 8 => iprop(∃ f, sqPts c k f) := bigSep_mono fun k _ => h1 k
  iapply h; iexact H
theorem rq_split (c : Dev nD) : (rqAll c : sProp 𝕄) ⊢ bigSep Finset.univ fun k : Fin 8 => iprop(∃ f, rqPts c k f) := by
  unfold rqAll
  iintro ⟨%f, H⟩
  ihave H := (Entails.of_eq (Ring.pointsTo_blocks (fun k : Fin 8 => (qR k).set) qR_disj qR_cover f)) $$ H
  have h1 (k : Fin 8) : (((c : Thread nD τ).loc cc0_scratch1) ↦[(qR k).set]{fullShare} f : sProp 𝕄) ⊢ iprop(∃ f, rqPts c k f) := by
    iintro H; iexists f; rw [rqPts_eq]; iexact H
  have h : (bigSep Finset.univ fun k : Fin 8 => (((c : Thread nD τ).loc cc0_scratch1) ↦[(qR k).set]{fullShare} f : sProp 𝕄))
      ⊢ bigSep Finset.univ fun k : Fin 8 => iprop(∃ f, rqPts c k f) := bigSep_mono fun k _ => h1 k
  iapply h; iexact H
theorem sq_join (m : (ℓ : Loc nD τ sig) → Buf (Elt F) ℓ) (c : Dev nD) : (bigSep Finset.univ fun k : Fin 8 => iprop(∃ f, sqPts c k f)) ⊢ (sqAll c : sProp 𝕄) := by
  simp only [sqPts_eq]
  unfold sqAll
  exact Ring.pointsTo_blocks_join_exists (ℓ := (c : Thread nD τ).loc cc0_scratch0) (fun k : Fin 8 => (qR k).set) qR_disj qR_cover
    (m ((c : Thread nD τ).loc cc0_scratch0))
theorem rq_join (m : (ℓ : Loc nD τ sig) → Buf (Elt F) ℓ) (c : Dev nD) : (bigSep Finset.univ fun k : Fin 8 => iprop(∃ f, rqPts c k f)) ⊢ (rqAll c : sProp 𝕄) := by
  simp only [rqPts_eq]
  unfold rqAll
  exact Ring.pointsTo_blocks_join_exists (ℓ := (c : Thread nD τ).loc cc0_scratch1) (fun k : Fin 8 => (qR k).set) qR_disj qR_cover
    (m ((c : Thread nD τ).loc cc0_scratch1))

/-! ## The whole function -/

/-- What the device's function starts from, at names `K` of the cells' invariants. -/
def ghost (c : Dev nD) : sProp 𝕄 :=
  iprop(records m ρ K ∗ (dutyTok ER (barCell (peer c)) 0 () ∗ atPos ER (barCell c) 0 ∅ 0)
    ∗ bigSep Finset.univ fun i : Lane => iprop(dutyTok ER (sendCell c i) 0 () ∗ dutyTok ER (recvCell (peer c) i) 0 ()
        ∗ atPos ER (sendCell c i) 0 ∅ 0 ∗ atPos ER (recvCell c i) 0 ∅ 0))
/-- the credits it is owed. -/
def credits (c : Dev nD) : sProp 𝕄 :=
  iprop(cred (tallyAt (barCell c) () 1) ∗ bigSep Finset.univ fun i : Lane => cred (tallyAt (recvCell c i) () (amt i)))

theorem idle_intro (c : Dev nD) :
    iprop((bigSep Finset.univ fun i : Lane => iprop(dutyTok ER (sendCell c i) 0 () ∗ dutyTok ER (recvCell (peer c) i) 0 ()
        ∗ atPos ER (sendCell c i) 0 ∅ 0 ∗ atPos ER (recvCell c i) 0 ∅ 0))
      ∗ bigSep Finset.univ fun i : Lane => cred (tallyAt (recvCell c i) () (amt i)))
    ⊢ (bigSep Finset.univ fun i : Lane => idle c i : sProp 𝕄) := by
  have h1 (i : Lane) : iprop((dutyTok ER (sendCell c i) 0 () ∗ dutyTok ER (recvCell (peer c) i) 0 ()
        ∗ atPos ER (sendCell c i) 0 ∅ 0 ∗ atPos ER (recvCell c i) 0 ∅ 0) ∗ cred (tallyAt (recvCell c i) () (amt i))) ⊢ (idle c i : sProp 𝕄) := by
    unfold idle
    iintro ⟨⟨H1, H2, H3, H4⟩, H5⟩
    isplitl [H1]; · iexact H1
    isplitl [H2]; · iexact H2
    isplitl [H3]; · iexact H3
    isplitl [H4] <;> iassumption
  rw [← bigSep_sep']
  exact bigSep_mono fun i _ => h1 i

/-- Loading the eight chunks of the peer's half. -/
theorem loads (c : Dev nD) (rest : (Fin 8 → Vec F S1x128x1024 .f32) → Pg F) (Q : PUnit → sProp 𝕄) :
    pPts m ρ c ⊢ iprop((pPts m ρ c -∗ wpB c (rest (peerChunk m ρ c)) Q) -∗ wpB c (
      loadStep c 0 fun v0 => loadStep c 1 fun v1 => loadStep c 2 fun v2 => loadStep c 3 fun v3 =>
      loadStep c 4 fun v4 => loadStep c 5 fun v5 => loadStep c 6 fun v6 => loadStep c 7 fun v7 =>
      rest ![v0, v1, v2, v3, v4, v5, v6, v7]) Q) := by
  iintro Hp Hk
  iapply (load_step m ρ c 0) $$ Hp; iintro Hp
  iapply (load_step m ρ c 1) $$ Hp; iintro Hp
  iapply (load_step m ρ c 2) $$ Hp; iintro Hp
  iapply (load_step m ρ c 3) $$ Hp; iintro Hp
  iapply (load_step m ρ c 4) $$ Hp; iintro Hp
  iapply (load_step m ρ c 5) $$ Hp; iintro Hp
  iapply (load_step m ρ c 6) $$ Hp; iintro Hp
  iapply (load_step m ρ c 7) $$ Hp; iintro Hp
  rw [show (![peerChunk m ρ c 0, peerChunk m ρ c 1, peerChunk m ρ c 2, peerChunk m ρ c 3, peerChunk m ρ c 4, peerChunk m ρ c 5, peerChunk m ρ c 6,
    peerChunk m ρ c 7] : Fin 8 → Vec F S1x128x1024 .f32) = peerChunk m ρ c from by funext k; fin_cases k <;> rfl]
  iapply Hk; iexact Hp

/-- What the device's function needs besides, and what it leaves. -/
def inputs (c : Dev nD) : sProp 𝕄 :=
  iprop((sqAll c ∗ rqAll c ∗ ssAll c ∗ srAll c) ∗ pPts m ρ c ∗ gPts m ρ c ∗ ∃ f, oPts c f)
def outputs (c : Dev nD) : sProp 𝕄 :=
  iprop(((semVal (barCell c) 0 ∗ bigSep Finset.univ fun i : Lane => drained c i) ∗ (sqAll c ∗ rqAll c ∗ ssAll c ∗ srAll c))
    ∗ pPts m ρ c ∗ gPts m ρ c ∗ oPts c (outAt m ρ c))

theorem filled_exit (c : Dev nD) : iprop(∃ f, ⌜Filled m ρ c 8 f⌝ ∗ oPts c f) ⊢ (oPts c (outAt m ρ c) : sProp 𝕄) := by
  iintro ⟨%f, %h, H⟩
  have e := filled_all m ρ c f h
  subst e
  iexact H

theorem drained_exit (m : (ℓ : Loc nD τ sig) → Buf (Elt F) ℓ) (c : Dev nD) :
    iprop((bigSep Finset.univ fun k : Fin 8 => iprop(drained c k.castSucc ∗ (∃ f, sqPts c k f) ∗ ∃ f, rqPts c k f)) ∗ drained c 8)
      ⊢ iprop((bigSep Finset.univ fun i : Lane => drained c i) ∗ sqAll c ∗ (rqAll c : sProp 𝕄)) := by
  rw [bigSep_sep', bigSep_sep', bigSep_lane]
  iintro ⟨⟨H1, H2, H3⟩, H4⟩
  isplitl [H1 H4]
  · isplitl [H1] <;> iassumption
  isplitl [H2]
  · iapply (sq_join m c); iexact H2
  · iapply (rq_join m c); iexact H3

/-- The chain of the sends. -/
theorem sends (c : Dev nD) (rest : Pg F) (Q : PUnit → sProp 𝕄) :
    iprop((bigSep Finset.univ fun k : Fin 8 => iprop(idle c k.castSucc ∗ (∃ f, sqPts c k f) ∗ ∃ f, rqPts (peer c) k f))
        ∗ records m ρ K ∗ pPts m ρ c ∗ owing c (due c 0))
      ⊢ iprop((((bigSep Finset.univ fun k : Fin 8 => flying c k.castSucc) ∗ records m ρ K ∗ pPts m ρ c ∗ owing c (due c 8)) -∗ wpB c rest Q)
        -∗ wpB c (chain (fun k r => quantStep c (peer c) k (peerChunk m ρ c k) r) rest) Q) :=
  chain_rule c _ (fun k : Fin 8 => iprop(idle c k.castSucc ∗ (∃ f, sqPts c k f) ∗ ∃ f, rqPts (peer c) k f)) (fun k => flying c k.castSucc)
    (fun n => iprop(records m ρ K ∗ pPts m ρ c ∗ owing c (due c n))) Q (fun k r => quant_step m ρ K c k r Q) rest

/-- What the rows' chain carries along. -/
def carried (c : Dev nD) (n : ℕ) : sProp 𝕄 :=
  iprop(records m ρ K ∗ pPts m ρ c ∗ gPts m ρ c ∗ srPts c (scales m ρ (peer c)) ∗ (∃ f, ⌜Filled m ρ c n f⌝ ∗ oPts c f) ∗ owing c 0)

/-- The chain of the rows. -/
theorem rows (c : Dev nD) (rest : Pg F) (Q : PUnit → sProp 𝕄) :
    iprop((bigSep Finset.univ fun k : Fin 8 => flying c k.castSucc) ∗ carried m ρ K c 0)
      ⊢ iprop((((bigSep Finset.univ fun k : Fin 8 => iprop(landed c k.castSucc ∗ ∃ f, rqPts c k f)) ∗ carried m ρ K c 8) -∗ wpB c rest Q)
        -∗ wpB c (chain (fun k r => waitChunk k <| rowsStep c k r) rest) Q) :=
  chain_rule c _ (fun k : Fin 8 => flying c k.castSucc) (fun k => iprop(landed c k.castSucc ∗ ∃ f, rqPts c k f))
    (carried m ρ K c) Q (fun k r => rows_step m ρ K c k r Q) rest

/-- The chain of the waits for the sends. -/
theorem drains (c : Dev nD) (rest : Pg F) (Q : PUnit → sProp 𝕄) :
    iprop((bigSep Finset.univ fun k : Fin 8 => iprop(landed c k.castSucc ∗ ∃ f, rqPts c k f)) ∗ records m ρ K ∗ owing c 0)
      ⊢ iprop((((bigSep Finset.univ fun k : Fin 8 => iprop(drained c k.castSucc ∗ (∃ f, sqPts c k f) ∗ ∃ f, rqPts c k f)) ∗ records m ρ K ∗ owing c 0)
          -∗ wpB c rest Q)
        -∗ wpB c (chain (fun k r => drainChunk k r) rest) Q) :=
  chain_rule c _ (fun k : Fin 8 => iprop(landed c k.castSucc ∗ ∃ f, rqPts c k f)) (fun k => iprop(drained c k.castSucc ∗ (∃ f, sqPts c k f) ∗ ∃ f, rqPts c k f))
    (fun _ => iprop(records m ρ K ∗ owing c 0)) Q (fun k r => drain_step m ρ K c k r Q) rest

theorem ret_rule (c : Dev nD) (Q : PUnit → sProp 𝕄) : Q ⟨⟩ ⊢ wpB c (.ret ⟨⟩ : Pg F) Q := by
  unfold wpB; rw [wp_ret]; exact fupd_intro

/-- The function, from its first step to its last. -/
theorem steps_run (c : Dev nD) (Q : PUnit → sProp 𝕄) :
    iprop(ghost m ρ K c ∗ credits c ∗ levAts L lv ∗ owing c (O₀ c) ∗ inputs m ρ c)
      ⊢ iprop(((owing c 0 ∗ outputs m ρ c) -∗ Q ⟨⟩) -∗ wpB c (steps c) Q) := by
  unfold ghost credits inputs
  iintro ⟨⟨#HR, ⟨Ht, Hat⟩, Hl⟩, ⟨Hcb, Hcl⟩, Hlev, HO, ⟨⟨Hsq, Hrq, Hss, Hsr⟩, Hp, Hg, Hout⟩⟩ Hk
  ihave Hl := (idle_intro c) $$ [Hl Hcl]
  · isplitl [Hl] <;> iassumption
  ihave Hl := (Entails.of_eq (bigSep_lane (fun i => idle c i))) $$ Hl
  icases Hl with ⟨Hl, Hl8⟩
  unfold steps
  rw [dev1_eq c]
  iapply (hs_step m ρ K c (peer c) rfl) $$ [Ht Hat Hcb Hlev HO Hrq Hsr]
  · isplitr; · iexact HR
    isplitl [Ht]; · iexact Ht
    isplitl [Hat]; · iexact Hat
    isplitl [Hcb]; · iexact Hcb
    isplitl [Hlev]; · iexact Hlev
    isplitl [HO]; · iexact HO
    isplitl [Hrq]; · iapply (rq_split c); iexact Hrq
    unfold srAll
    icases Hsr with ⟨%f, Hsr⟩
    iexists f; rw [srPts_eq]; iexact Hsr
  iintro ⟨HO, Hbar, HrqP, HsrP⟩
  iapply (loads m ρ c (afterMax c)) $$ Hp
  iintro Hp
  rw [afterMax_eq, show scaleRow (peerChunk m ρ c) = scales m ρ c from rfl]
  iapply (scales_step m ρ K c) $$ [Hl8 Hss HsrP HO]
  · isplitl [Hl8 Hss HsrP]
    · isplitl [Hl8]; · iexact Hl8
      isplitl [Hss]
      · unfold ssAll
        icases Hss with ⟨%f, Hss⟩
        iexists f; rw [ssPts_eq]; iexact Hss
      · iexact HsrP
    isplitr; · iexact HR
    iexact HO
  iintro ⟨Hl8, -, HO⟩
  iapply (sends m ρ K c) $$ [Hl Hsq HrqP Hp HO]
  · isplitl [Hl Hsq HrqP]
    · rw [bigSep_sep', bigSep_sep']
      isplitl [Hl]; · iexact Hl
      isplitl [Hsq]; · iapply (sq_split c); iexact Hsq
      iexact HrqP
    isplitr; · iexact HR
    isplitl [Hp] <;> iassumption
  iintro ⟨Hl, -, Hp, HO⟩
  rw [due_end]
  iapply (waitScales_step m ρ K c) $$ [Hl8 HO]
  · isplitl [Hl8]; · iexact Hl8
    isplitr; · iexact HR
    iexact HO
  iintro ⟨Hl8, -, HO, Hsr⟩
  iapply (rows m ρ K c) $$ [Hl Hp Hg Hsr Hout HO]
  · isplitl [Hl]; · iexact Hl
    unfold carried
    isplitr; · iexact HR
    isplitl [Hp]; · iexact Hp
    isplitl [Hg]; · iexact Hg
    isplitl [Hsr]; · iexact Hsr
    isplitl [Hout]
    · icases Hout with ⟨%f, Hout⟩
      iexists f
      isplitr
      · ipureintro; exact filled_zero m ρ c f
      · iexact Hout
    iexact HO
  unfold carried
  iintro ⟨Hl, -, Hp, Hg, Hsr, Hout, HO⟩
  ihave Hout := (filled_exit m ρ c) $$ Hout
  iapply (drainScales_step m ρ K c) $$ [Hl8 HO]
  · isplitl [Hl8]; · iexact Hl8
    isplitr; · iexact HR
    iexact HO
  iintro ⟨⟨Hl8, Hss⟩, -, HO⟩
  iapply (drains m ρ K c) $$ [Hl HO]
  · isplitl [Hl]; · iexact Hl
    isplitr; · iexact HR
    iexact HO
  iintro ⟨Hl, -, HO⟩
  ihave Hd := (drained_exit m c) $$ [Hl Hl8]
  · isplitl [Hl] <;> iassumption
  icases Hd with ⟨Hd, Hsq, Hrq⟩
  iapply (ret_rule c Q)
  iapply Hk
  isplitl [HO]; · iexact HO
  unfold outputs
  isplitl [Hbar Hd Hsq Hrq Hss Hsr]
  · isplitl [Hbar Hd]
    · isplitl [Hbar] <;> iassumption
    isplitl [Hsq]; · iexact Hsq
    isplitl [Hrq]; · iexact Hrq
    isplitl [Hss]
    · unfold ssAll
      icases Hss with ⟨%f, Hss⟩
      iexists f; rw [← ssPts_eq]; iexact Hss
    · unfold srAll
      iexists (scales m ρ (peer c)); rw [← srPts_eq]; iexact Hsr
  isplitl [Hp]; · iexact Hp
  isplitl [Hg] <;> iassumption

end Cert.KernelIdealProof

end
-- ==== Proof.KernelIdealProof.Launch.lean ====
/-
# The launch

The kernel's function put under the launch: the ghost state dealt to the devices, the credits each device is owed, and
the run of the whole program from any memory with zero semaphores.
-/
module

public import proofs.«01_k».proof.Proof.KernelIdealProof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The data of the launch -/

/-- What device `c` starts from. -/
def start (c : Dev nD) : sProp 𝕄 := iprop((∃ K, ghost m ρ K c) ∗ credits c ∗ levAts L lv)
/-- Before the function: that, and the four buffers; after it: the buffers, and every semaphore of the device at zero. -/
def Φ₀ (c : Dev nD) : sProp 𝕄 := iprop(start m ρ c ∗ (sqAll c ∗ rqAll c ∗ ssAll c ∗ srAll c))
def Φ₁ (c : Dev nD) : sProp 𝕄 :=
  iprop((semVal (barCell c) 0 ∗ bigSep Finset.univ fun i : Lane => drained c i) ∗ (sqAll c ∗ rqAll c ∗ ssAll c ∗ srAll c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ
    ∗ stg c cc0_stg0_0 (xstg m ρ c) ∗ stg c cc0_stg1_0 (gstg m ρ c) ∗ stg c cc0_stg2_0 (outAt m ρ c))

theorem owes_enter (c : Dev nD) : ((dats (F := F) m ρ 0 c).owesAt () t0_0.castSucc : sProp 𝕄) ⊢ owing c (O₀ c) := by
  unfold Dat.owesAt Pipeline.owesWithin owing
  rw [show (dats m ρ 0 c).owed t0_0.castSucc = O₀ c from rfl]
  iintro ⟨%W, -, HO⟩
  iexists W; iexact HO
theorem owes_exit (c : Dev nD) : (owing c 0 : sProp 𝕄) ⊢ (dats (F := F) m ρ 0 c).owesAt () t0_0.succ := by
  unfold Dat.owesAt Pipeline.owesWithin owing
  rw [show (dats m ρ 0 c).owed t0_0.succ = 0 from rfl]
  iintro ⟨%W, HO⟩
  iexists W
  isplitr; · ipureintro; exact fun _ _ => Or.inl trivial
  iexact HO

/-- The function under the launch. -/
theorem sound_body (c : Dev nD) :
    bodyPre m ρ c ⊢ wp frame (wpE (defs₀ (F := F)) 𝒱₀ (c : Thread nD τ) none) Set.univ
      (cc0_body (F := F) pM (Memref.isWhole_whole _) gM (Memref.isWhole_whole _) oM (Memref.isWhole_whole _) sqM (Memref.isWhole_whole _)
        rqM (Memref.isWhole_whole _) ssM (Memref.isWhole_whole _) srM (Memref.isWhole_whole _) cc0_scratch4 cc0_scratch5) (fun _ => bodyPost m ρ c) := by
  rw [body_eq, wp_deviceId]
  unfold bodyPre Φ₀ start
  iintro ⟨⟨⟨⟨%K, Hgh⟩, Hcr, Hlev⟩, Hbuf⟩, Ho, ⟨%d0, %f0, %h0, Hp⟩, ⟨%d1, %f1, %h1, Hg⟩, ⟨%d2, %f2, %h2, Hout⟩⟩
  have e0 : f0 = xstg m ρ c := by rw [h0]; unfold Dat.before; rw [if_pos (fetch0_0 t0_0)]; rfl
  have e1 : f1 = gstg m ρ c := by rw [h1]; unfold Dat.before; rw [if_pos (fetch0_1 t0_0)]; rfl
  subst e0 e1
  ihave HO := (owes_enter m ρ c) $$ Ho
  iapply (steps_run m ρ K c (fun _ => bodyPost m ρ c)) $$ [Hgh Hcr Hlev HO Hbuf Hp Hg Hout]
  · isplitl [Hgh]; · iexact Hgh
    isplitl [Hcr]; · iexact Hcr
    isplitl [Hlev]; · iexact Hlev
    isplitl [HO]; · iexact HO
    unfold inputs pPts gPts oPts
    isplitl [Hbuf]; · iexact Hbuf
    isplitl [Hp]; · iexact Hp
    isplitl [Hg]; · iexact Hg
    iexists f2; iexact Hout
  unfold outputs bodyPost Φ₁ pPts gPts oPts
  iintro ⟨HO, Hz, Hp, Hg, Hout⟩
  isplitl [Hz]; · iexact Hz
  isplitl [HO]; · iapply (owes_exit m ρ c); iexact HO
  isplitl [Hp]
  · iexists _; isplitr; · (ipureintro; rfl)
    iexact Hp
  isplitl [Hg]
  · iexists _; isplitr; · (ipureintro; rfl)
    iexact Hg
  iexists _; isplitr; · (ipureintro; rfl)
  iexact Hout

set_option maxRecDepth 4000 in
/-- What the launch asks of the function on device `c`. -/
theorem body_obligation (c : Dev nD) : BodyObligation (dats (F := F) m ρ 0 c) (defs₀ (F := F)) 𝒱₀ () Set.univ := fun t => by
  rw [fin_N0 t]
  rw [bigSep_W, bigSep_W]
  simp only [owns_stage]
  show bodyPre m ρ c ⊢ wp frame (wpE (defs₀ (F := F)) 𝒱₀ (c : Thread nD τ) none) Set.univ
      (cc0_body (F := F) pM (Memref.isWhole_whole _) gM (Memref.isWhole_whole _) oM (Memref.isWhole_whole _) sqM (Memref.isWhole_whole _)
        rqM (Memref.isWhole_whole _) ssM (Memref.isWhole_whole _) srM (Memref.isWhole_whole _) cc0_scratch4 cc0_scratch5) (fun _ => bodyPost m ρ c)
  exact sound_body m ρ c

/-! ## The ghost state -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × CI → GSem nD τ sig) := by
  rintro ⟨c, x⟩ ⟨c', x'⟩ h
  have h1 : c = c' := congrArg (fun g : GSem nD τ sig => g.1.1) h
  have h2 : x = x' := csem_injective (congrArg Prod.snd h)
  rw [h1, h2]
def allCells : Finset (GSem nD τ sig) := Finset.univ.map ⟨kcell, kcell_injective⟩
/-- The one duty of every cell. -/
def allToks : Finset (GSem nD τ sig × ℕ × Unit) :=
  Finset.univ.map ⟨fun x : Dev nD × CI => (kcell x, 0, ()), fun _ _ h => kcell_injective (congrArg Prod.fst h)⟩

def u₀ : UU := (initOf (Pipeline.cells cfgs cellOf_inj) (Pipeline.launchToks cfgs cellOf_inj), initOf allCells allToks)

/-- What each device is dealt: of its cells, the schedule's state at round 0, its own position, and the token of the duty. -/
def G (c : Dev nD) : sProp 𝕄 :=
  iprop((bigSep Finset.univ fun x : CI => roundState ER (rd m ρ) (kcell (c, x)) 0)
    ∗ (bigSep Finset.univ fun x : CI => iprop(atPos ER (kcell (c, x)) 0 ∅ 0 ∗ reached ER (kcell (c, x)) 0))
    ∗ bigSep Finset.univ fun x : CI => dutyTok ER (kcell (c, x)) 0 ())
/-- What it has once the cells' invariants are set up. -/
def G' (c : Dev nD) : sProp 𝕄 := iprop(∃ K, ghost m ρ K c)

/-- A family over a device's cells: the barrier's, the sends', the receives'. -/
theorem bigSep_CI (Φ : CI → sProp 𝕄) :
    bigSep Finset.univ Φ = iprop(Φ none ∗ (bigSep Finset.univ fun i : Lane => Φ (some (false, i))) ∗ bigSep Finset.univ fun i : Lane => Φ (some (true, i))) := by
  rw [bigSep_univ_equiv (Equiv.optionEquivSumPUnit.{0, 0} (Bool × Lane)).symm Φ, bigSep_univ_sum, bigSep_univ_of_subsingleton PUnit.unit, bigSep_univ_prod,
    bigSep_univ_eq_bigSepL [false, true] (by decide) (by decide)]
  exact sep_comm.antisymm sep_comm
theorem bigSep_OI (Φ : Bool × Lane → sProp 𝕄) :
    bigSep Finset.univ Φ = iprop((bigSep Finset.univ fun i : Lane => Φ (false, i)) ∗ bigSep Finset.univ fun i : Lane => Φ (true, i)) := by
  rw [bigSep_univ_prod, bigSep_univ_eq_bigSepL [false, true] (by decide) (by decide)]
  rfl

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun x : CI => Φ (kcell (c, x)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun x : CI => dutyTok ER (kcell (c, x)) 0 () := by
    unfold allToks; rw [bigSep_map, bigSep_univ_prod]; rfl
  iintro HX
  imod (Rounds.fund ER (rd m ρ) allCells allToks) $$ HX with ⟨Hst, Hr, Hat, Htok⟩
  imodintro
  ihave Hst := (Entails.of_eq (hX fun g => roundState ER (rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = iprop((bigSep Finset.univ fun i : Lane => semVal (sendCell c i) 0) ∗ bigSep Finset.univ fun i : Lane => semVal (recvCell c i) 0) := by
  unfold Pipeline.ownSems0; rw [bigSep_OI]

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CI => semVal (kcell (c, x)) 0 : sProp 𝕄) := by
  rw [ownSems0_eq, unscopedSems0_eq, bigSep_CI]
  iintro ⟨⟨HS, HV⟩, HB⟩
  isplitl [HB]; · iexact HB
  isplitl [HS] <;> iassumption

/-- A device's cells' invariants are set up from its semaphores at zero and the schedule's state. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : CI => iprop(∃ κ : ℕ, cellInv ER (rd m ρ) κ (kcell (c, x))))
          ∗ (bigSep Finset.univ fun x : CI => iprop(atPos ER (kcell (c, x)) 0 ∅ 0 ∗ reached ER (kcell (c, x)) 0))
          ∗ bigSep Finset.univ fun x : CI => dutyTok ER (kcell (c, x)) 0 ()) := by
  unfold G
  iintro ⟨Hos, Hus, Hst, Hrest⟩
  ihave Hv := (sems0_eq (F := F) c) $$ [Hos Hus]
  · isplitl [Hos] <;> iassumption
  imod (show iprop((bigSep Finset.univ fun x : CI => semVal (kcell (c, x)) 0) ∗ bigSep Finset.univ fun x : CI => roundState ER (rd m ρ) (kcell (c, x)) 0)
      ⊢ (|={Set.univ}=> bigSep Finset.univ fun x : CI => iprop(∃ κ : ℕ, cellInv ER (rd m ρ) κ (kcell (c, x))) : sProp 𝕄) from by
        rw [← bigSep_sep']
        exact (bigSep_mono fun x _ => (Rounds.body_intro ER (rd m ρ) (kcell (c, x))).trans inv_alloc).trans (bigSep_fupd _ _)) $$ [Hv Hst] with Hinv
  · isplitl [Hv] <;> iassumption
  imodintro
  isplitl [Hinv] <;> iassumption

/-- What stays with device `c` besides the records: its positions, and the tokens of the duties it pays. -/
def linear (c : Dev nD) : sProp 𝕄 :=
  iprop((dutyTok ER (barCell (peer c)) 0 () ∗ atPos ER (barCell c) 0 ∅ 0)
    ∗ bigSep Finset.univ fun i : Lane => iprop(dutyTok ER (sendCell c i) 0 () ∗ dutyTok ER (recvCell (peer c) i) 0 ()
        ∗ atPos ER (sendCell c i) 0 ∅ 0 ∗ atPos ER (recvCell c i) 0 ∅ 0))

theorem ghost_intro (K : Dev nD × CI → ℕ) (c : Dev nD) : iprop(records m ρ K ∗ linear c) ⊢ G' m ρ c := by
  unfold linear G' ghost
  iintro ⟨HR, HL⟩
  iexists K
  isplitl [HR] <;> iassumption

/-- The tokens dealt to the peers: a device pays its peer's barrier and receives, and its own sends. -/
theorem deal :
    iprop((bigSep Finset.univ fun c : Dev nD => bigSep Finset.univ fun x : CI => atPos ER (kcell (c, x)) 0 ∅ 0)
        ∗ bigSep Finset.univ fun c : Dev nD => bigSep Finset.univ fun x : CI => dutyTok ER (kcell (c, x)) 0 ())
      ⊢ (bigSep Finset.univ fun c : Dev nD => linear c : sProp 𝕄) := by
  unfold linear
  simp only [bigSep_CI, bigSep_sep']
  rw [bigSep_univ_equiv swap (fun c : Dev nD => (dutyTok ER (kcell (c, none)) 0 () : sProp 𝕄)),
    bigSep_univ_equiv swap (fun c : Dev nD => (bigSep Finset.univ fun i : Lane => dutyTok ER (kcell (c, some (true, i))) 0 () : sProp 𝕄))]
  iintro ⟨⟨A1, A2, A3⟩, T1, T2, T3⟩
  isplitl [A1 T1]
  · isplitl [T1]; · iexact T1
    iexact A1
  isplitl [T2]; · iexact T2
  isplitl [T3]; · iexact T3
  isplitl [A2] <;> iassumption

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CI => iprop(∃ κ : ℕ, cellInv ER (rd m ρ) κ (kcell (c, x))))
          ∗ (bigSep Finset.univ fun x : CI => iprop(atPos ER (kcell (c, x)) 0 ∅ 0 ∗ reached ER (kcell (c, x)) 0))
          ∗ bigSep Finset.univ fun x : CI => dutyTok ER (kcell (c, x)) 0 ()) : sProp 𝕄)
      ⊢ bigSep Finset.univ (G' m ρ) := by
  rw [bigSep_sep', bigSep_sep', ← bigSep_univ_prod (fun ck : Dev nD × CI => iprop(∃ κ : ℕ, cellInv ER (rd m ρ) κ (kcell ck))),
    bigSep_congr (s := Finset.univ) (fun (c : Dev nD) _ => bigSep_sep' Finset.univ (fun x : CI => (atPos ER (kcell (c, x)) 0 ∅ 0 : sProp 𝕄)) (fun x => reached ER (kcell (c, x)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd m ρ) κ (kcell ck) : sProp 𝕄))) $$ HI
  icases HK with ⟨%K, #HI⟩
  ihave HL := (deal (F := F)) $$ [Hat Htok]
  · isplitl [Hat] <;> iassumption
  iapply (bigSep_with (R := records m ρ K) fun c _ => ghost_intro m ρ K c)
  isplitr
  · unfold records; isplitl; · iexact HI
    iexact HR
  · iexact HL

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

/-- One kind of payment: every device pays its peer, so every device is paid. -/
theorem cred_one (x : CI) (n : ℕ) (c : Dev nD) :
    (Pipeline.launchCred (fun d : Dev nD => tallyAt (kcell (peer d, x)) () n) c : sProp 𝕄) ⊢ cred (tallyAt (kcell (c, x)) () n) :=
  Pipeline.launchCred_tallyAt (csem x) peer peer peer_peer peer_peer () n c

/-- The credits of the chunks from `k` on. -/
theorem creds_due (c : Dev nD) (k : ℕ) (hk : k ≤ 8) :
    (Pipeline.launchCred (fun d : Dev nD => due d k) c : sProp 𝕄)
      ⊢ bigSep (Finset.univ.filter fun i : Fin 8 => k ≤ i.val) fun i : Fin 8 => cred (tallyAt (recvCell c i.castSucc) () (amt i.castSucc)) := by
  induction h : 8 - k generalizing k with
  | zero =>
    have : k = 8 := by omega
    subst this
    rw [show (Finset.univ.filter fun i : Fin 8 => 8 ≤ i.val) = ∅ from by decide, bigSep_empty]
    iintro -
    iempintro
  | succ n ih =>
    have hk8 : k < 8 := by omega
    have e : (fun d : Dev nD => due d k) = (fun d => due d (k + 1) + tallyAt (recvCell (peer d) (⟨k, hk8⟩ : Fin 8).castSucc) () (amt (⟨k, hk8⟩ : Fin 8).castSucc)) :=
      funext fun d => due_step d ⟨k, hk8⟩
    have hs : (Finset.univ.filter fun i : Fin 8 => k ≤ i.val) = insert (⟨k, hk8⟩ : Fin 8) (Finset.univ.filter fun i : Fin 8 => k + 1 ≤ i.val) := by
      ext i
      simp only [Finset.mem_filter, Finset.mem_univ, true_and, Finset.mem_insert, Fin.ext_iff]
      omega
    have hi (Φ : Fin 8 → sProp 𝕄) : bigSep (insert (⟨k, hk8⟩ : Fin 8) (Finset.univ.filter fun i : Fin 8 => k + 1 ≤ i.val)) Φ
        = iprop(Φ ⟨k, hk8⟩ ∗ bigSep (Finset.univ.filter fun i : Fin 8 => k + 1 ≤ i.val) Φ) := bigSep_insert (by simp)
    rw [e, hs, hi]
    iintro H
    ihave H := (Entails.of_eq (Pipeline.launchCred_add (fun d : Dev nD => due d (k + 1)) _ c)) $$ H
    icases H with ⟨H1, H2⟩
    isplitl [H2]
    · iapply (cred_one (some (true, (⟨k, hk8⟩ : Fin 8).castSucc)) _ c); iexact H2
    · iapply (ih (k + 1) (by omega) (by omega)); iexact H1

theorem creds (c : Dev nD) : (Pipeline.launchCred O₀ c : sProp 𝕄) ⊢ credits c := by
  have h8 : (Pipeline.launchCred (fun d : Dev nD => due d 0) c : sProp 𝕄) ⊢ bigSep Finset.univ fun i : Fin 8 => cred (tallyAt (recvCell c i.castSucc) () (amt i.castSucc)) := by
    have h := creds_due (F := F) c 0 (by omega)
    rw [show (Finset.univ.filter fun i : Fin 8 => 0 ≤ i.val) = Finset.univ from by decide] at h
    exact h
  have e : (O₀ : Dev nD → CellTallies nD τ sig Unit) = fun d => dueAll d + tallyAt (barCell (peer d)) () 1 := rfl
  have e' : (dueAll : Dev nD → CellTallies nD τ sig Unit) = fun d => due d 0 + tallyAt (recvCell (peer d) 8) () (amt 8) := rfl
  unfold credits
  rw [bigSep_lane, e]
  iintro H
  ihave H := (Entails.of_eq (Pipeline.launchCred_add dueAll (fun d : Dev nD => tallyAt (barCell (peer d)) () 1) c)) $$ H
  icases H with ⟨H, Hb⟩
  rw [e']
  ihave H := (Entails.of_eq (Pipeline.launchCred_add (fun d : Dev nD => due d 0) (fun d : Dev nD => tallyAt (recvCell (peer d) 8) () (amt 8)) c)) $$ H
  icases H with ⟨H, Hs⟩
  isplitl [Hb]; · iapply (cred_one none 1 c); iexact Hb
  isplitl [H]; · iapply h8; iexact H
  iapply (cred_one (some (true, 8)) (amt 8) c); iexact Hs

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ sqAll rqAll ssAll srAll
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ drained sqAll rqAll ssAll srAll
  rw [bigSep_sep']
  iintro ⟨⟨HB, HS, HV⟩, Hr⟩
  isplitl [HB]; · iexact HB
  isplitl [HS HV]
  · isplitl [HS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair execution of the program, from any memory with zero semaphores, ends; every array is then at the contents the
    run computes, and every semaphore is back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays are unchanged. -/
theorem finalA_arg0 (c : Dev nD) : finalA m ρ c (0 : Fin 3) = (s₀ m ρ).mem (win0_0.arr.view.loc (c : Thread nD τ)) :=
  (dats (F := F) m ρ 0 c).arrAt_in (0 : Fin 3) rfl _
theorem finalA_arg1 (c : Dev nD) : finalA m ρ c (1 : Fin 3) = (s₀ m ρ).mem (win0_1.arr.view.loc (c : Thread nD τ)) :=
  (dats (F := F) m ρ 0 c).arrAt_in (1 : Fin 3) rfl _

end Cert.KernelIdealProof

end
-- ==== Proof.Claims.Frames.lean ====
/-
  The four claims that speak of no value: each of the three programs runs to its end from any memory, leaves its
  arguments unchanged and every semaphore at zero; and the idealized kernel differs from the kernel only by the named
  constant `1/127`.
-/
module

public import proofs.«01_k».proof.Defs
public import proofs.«01_k».proof.Proof.KernelProof.Launch
public import proofs.«01_k».proof.Proof.KernelIdealProof.Launch
public import proofs.«01_k».proof.Proof.Gen.ReferenceIdeal.Run
public import Idealize.ShloMosaic.Lib.Quiescent

@[expose] public section

noncomputable section

namespace Cert.Proof.Claims

open Idealize.ShloMosaic Idealize.ShloMosaic.TcCoe Idealize.SL.Sem

/-- The kernel runs to its end; its arguments and its semaphores end as they began. -/
theorem frame_kernel : Cert.quiescent_Kernel := fun m ρ _ =>
  (θ_run Cert.Kernel.defs _ _).mono
    (fun _ h => ⟨fun c => ⟨(h.1 c (0 : Fin 3)).trans (Cert.KernelProof.finalA_arg0 m ρ c),
      (h.1 c (1 : Fin 3)).trans (Cert.KernelProof.finalA_arg1 m ρ c)⟩, h.2⟩)
    (Cert.KernelProof.run_main m ρ)

/-- The idealized kernel runs to its end; its arguments and its semaphores end as they began. -/
theorem frame_ideal : Cert.quiescent_KernelIdeal := fun m ρ _ =>
  (θ_run Cert.KernelIdeal.defs _ _).mono
    (fun _ h => ⟨fun c => ⟨(h.1 c (0 : Fin 3)).trans (Cert.KernelIdealProof.finalA_arg0 m ρ c),
      (h.1 c (1 : Fin 3)).trans (Cert.KernelIdealProof.finalA_arg1 m ρ c)⟩, h.2⟩)
    (Cert.KernelIdealProof.run_main m ρ)

/-- The reference runs to its end; its arguments end as they began, and it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The one named constant of the idealized kernel is `1/127`, and its pattern is the one the kernel prints. -/
theorem preserves : Cert.preserves_Kernel_KernelIdeal :=
  IdealRules.named_const.statement Cert.KernelIdeal.κ "inv127" .f32 0x3C010204#32 ((127⁻¹ : ℝ) : EReal) rfl

end Cert.Proof.Claims

end
-- ==== Proof.Value.Quant.lean ====
/-
  The quantiser on the extended reals: the scale of a chunk, the code of an element, and that the code of an element of a
  chunk lies in `[-127, 127]`, so that storing it as an 8-bit integer and reading it back changes nothing.
-/
module

public import Idealize.ShloMosaic.PureOps.Ideal

@[expose] public section

noncomputable section

namespace Cert.Value

open Idealize.ShloMosaic

/-- The programs' `127.0`. -/
theorem ofBits_127 : Ideal.ofBits .f32 0x42FE0000#32 = ((127 : ℝ) : EReal) := by
  simp [Ideal.ofBits, Ideal.ieee, -EReal.coe_mul]; norm_num

/-- The programs' zero. -/
theorem ofBits_0 : Ideal.ofBits .f32 0x00000000#32 = 0 := by
  simp [Ideal.ofBits, Ideal.ieee]

/-- The programs' `-∞`, which a maximum starts from. -/
theorem ofBits_neg_inf : Ideal.ofBits .f32 0xFF800000#32 = ⊥ := by
  simp [Ideal.ofBits, Ideal.ieee]

/-- The least value a chunk's maximum is divided by, `1e-30` as a 32-bit float. -/
def tiny : EReal := Ideal.ofBits .f32 0x0DA24260#32

theorem tiny_pos : ∃ e : ℝ, 0 < e ∧ tiny = (e : EReal) :=
  ⟨10633824 * (2 : ℝ) ^ (-123 : ℤ), by positivity, by
    simp [tiny, Ideal.ofBits, Ideal.ieee, -EReal.coe_mul]⟩

/-- What a chunk of greatest magnitude `m` is multiplied by before it is rounded. -/
def scale (m : EReal) : EReal := Ideal.div ((127 : ℝ) : EReal) (max m tiny)

/-- The code of the element `x` of a chunk of greatest magnitude `m`: scaled, then rounded to the nearest integer. -/
def code (m x : EReal) : EReal := Ideal.liftRound Ideal.roundHalfEven (x * scale m)

/-- What the code of `x` stands for. -/
def decoded (m x : EReal) : EReal := code m x * Ideal.div m ((127 : ℝ) : EReal)

/-- Rounding keeps a real between -127 and 127 there. -/
theorem round_bounds {r : ℝ} (h1 : -127 ≤ r) (h2 : r ≤ 127) :
    -127 ≤ Ideal.roundHalfEven r ∧ Ideal.roundHalfEven r ≤ 127 := by
  have f1 : (-127 : ℤ) ≤ ⌊r⌋ := Int.le_floor.mpr (by push_cast; exact h1)
  have f2 : ⌊r⌋ ≤ 127 := by exact_mod_cast (Int.floor_le r).trans h2
  have hlt {h : 1 / 2 ≤ r - ⌊r⌋} : ⌊r⌋ < 127 := by
    have : (⌊r⌋ : ℝ) < 127 := by linarith
    exact_mod_cast this
  unfold Ideal.roundHalfEven
  dsimp only
  split_ifs with a b c
  · exact ⟨f1, f2⟩
  · have := hlt (h := by linarith); constructor <;> omega
  · exact ⟨f1, f2⟩
  · have := hlt (h := by linarith); constructor <;> omega

/-- An element no larger than its chunk's greatest magnitude is scaled into `[-127, 127]`. -/
theorem scaled_bounds (m x : EReal) (hx : max x (-x) ≤ m) :
    ∃ r : ℝ, x * scale m = (r : EReal) ∧ -127 ≤ r ∧ r ≤ 127 := by
  obtain ⟨e, he, ht⟩ := tiny_pos
  unfold scale
  rw [ht]
  induction m using EReal.rec with
  | bot =>
    exfalso
    have h1 := (le_max_left x (-x)).trans hx
    have h2 := (le_max_right x (-x)).trans hx
    rw [le_bot_iff] at h1
    rw [h1] at h2
    simp at h2
  | top =>
    refine ⟨0, ?_, by norm_num, by norm_num⟩
    simp [Ideal.div]
  | coe M =>
    induction x using EReal.rec with
    | bot => simp at hx
    | top => simp at hx
    | coe y =>
      have h1 : y ≤ M := by exact_mod_cast (le_max_left _ _).trans hx
      have h2 : -y ≤ M := by exact_mod_cast (le_max_right _ _).trans hx
      have hm : max (M : EReal) (e : EReal) = ((max M e : ℝ) : EReal) := (EReal.coe_strictMono.monotone.map_max).symm
      have hp : 0 < max M e := lt_max_of_lt_right he
      have hy1 : y ≤ max M e := h1.trans (le_max_left _ _)
      have hy2 : -y ≤ max M e := h2.trans (le_max_left _ _)
      refine ⟨y * (127 / max M e), ?_, ?_, ?_⟩
      · rw [hm, Ideal.div_coe hp.ne', ← EReal.coe_mul, ← EReal.coe_mul]
        congr 2; ring
      · rw [← mul_div_assoc, le_div_iff₀ hp]; nlinarith
      · rw [← mul_div_assoc, div_le_iff₀ hp]; nlinarith

/-- Storing the code of an element of a chunk as an 8-bit integer and reading it back gives the code. -/
theorem code_int8 (m x : EReal) (hx : max x (-x) ≤ m) :
    (((Ideal.fptosi 8 (code m x)).toInt : ℝ) : EReal) = code m x := by
  obtain ⟨r, hr, h1, h2⟩ := scaled_bounds m x hx
  obtain ⟨b1, b2⟩ := round_bounds h1 h2
  unfold code
  rw [hr, Ideal.liftRound_coe]
  generalize Ideal.roundHalfEven r = n at b1 b2
  congr 2
  unfold Ideal.fptosi
  rw [Ideal.toIntClamped_coe]
  simp only [Int.floor_intCast, Int.ceil_intCast, ite_self]
  have e : max (-((2 ^ (8 - 1) : Nat) : ℤ)) (min (((2 ^ (8 - 1) : Nat) : ℤ) - 1) n) = n := by
    norm_num; omega
  rw [e, BitVec.toInt_ofInt]
  exact Int.bmod_eq_of_le (by norm_num; omega) (by norm_num; omega)

end Cert.Value

end
-- ==== Proof.Value.Spec.lean ====
/-
  What the kernel and the reference both compute, said on plain functions of row and column: the greatest magnitude of a
  chunk, the sum of one device's own chunk with the decoded chunk of the other, and the normalisation of a row.
-/
module

public import proofs.«01_k».proof.Proof.Value.Quant

@[expose] public section

noncomputable section

namespace Cert.Value

open Idealize.ShloMosaic

/-- The greatest magnitude of a chunk of 128 rows of 1024 columns. -/
def mag (v : Fin 128 → Fin 1024 → EReal) : EReal :=
  (Finset.univ : Finset (Fin 128 × Fin 1024)).fold max ⊥ fun k => max (v k.1 k.2) (-(v k.1 k.2))

/-- No element of a chunk is larger than its greatest magnitude. -/
theorem le_mag (v : Fin 128 → Fin 1024 → EReal) (r : Fin 128) (j : Fin 1024) : max (v r j) (-(v r j)) ≤ mag v :=
  Finset.le_fold_max _ |>.mpr (Or.inr ⟨(r, j), Finset.mem_univ _, le_rfl⟩)

/-- A maximum taken from `-∞` over any index set that names exactly the elements of a chunk is its greatest magnitude. -/
theorem fold_eq_mag {ι : Type} (s : Finset ι) (f : ι → EReal) (v : Fin 128 → Fin 1024 → EReal)
    (h1 : ∀ i ∈ s, ∃ r j, f i = max (v r j) (-(v r j))) (h2 : ∀ r j, ∃ i ∈ s, f i = max (v r j) (-(v r j))) :
    s.fold max ⊥ f = mag v := by
  apply le_antisymm
  · refine (Finset.fold_max_le _).mpr ⟨bot_le, fun i hi => ?_⟩
    obtain ⟨r, j, e⟩ := h1 i hi
    exact e ▸ le_mag v r j
  · refine (Finset.fold_max_le _).mpr ⟨bot_le, fun k _ => ?_⟩
    obtain ⟨i, hi, e⟩ := h2 k.1 k.2
    exact (Finset.le_fold_max _).mpr (Or.inr ⟨i, hi, e.symm.le⟩)

/-- A chunk plus the decoded codes of another. -/
def summed (own other : Fin 128 → Fin 1024 → EReal) (r : Fin 128) (j : Fin 1024) : EReal :=
  own r j + decoded (mag other) (other r j)

/-- Column `j` of a row divided by the root of its mean square (plus `1e-6`), times `g`. -/
def normed (y : Fin 1024 → EReal) (g : EReal) (j : Fin 1024) : EReal :=
  Ideal.div (y j) (Ideal.sqrt (Ideal.div (∑ k, y k * y k) (Ideal.ofBits .f32 0x44800000#32) + Ideal.ofBits .f32 0x358637BD#32)) * g

end Cert.Value

end
-- ==== Proof.Value.Reference.lean ====
/-
  What the reference's result is at a row and a column, in terms of `Spec`.
-/
module

public import proofs.«01_k».proof.Proof.Value.Spec
public import proofs.«01_k».proof.Proof.Gen.ReferenceIdeal.Run
public import Idealize.ShloMosaic.Lib.Pipeline.Value
public import Idealize.ShloMosaic.Lib.IdealHost
public import Idealize.ShloMosaic.Lib.ValueIdx

@[expose] public section

noncomputable section

namespace Cert.Value.Ref

open Idealize.ShloMosaic Idealize.ShloMosaic.TcCoe Idealize.ShloMosaic.ValueIdx
open Cert.ReferenceIdeal Cert.ReferenceIdeal.Gen

/-! ## The stages of the reference -/

variable (a : FVec Ideal S2x2048x1024 .f32) (g : FVec Ideal S1024 .f32)

/-- The input by source, half, chunk, row of the chunk and column. -/
def parts : FVec Ideal S2x2x8x128x1024 .f32 := shapeCast _ a shapeCasts_S2x2048x1024_S2x2x8x128x1024

/-- The greatest magnitude of each chunk. -/
def mags : FVec Ideal S2x2x8x1x1 .f32 :=
  broadcastInDim S2x2x8x1x1 ![0, 1, 2] bcast_S2x2x8_S2x2x8x1x1_0_1_2 (Host.reduce FloatOps.maximumf (Host.absf (parts a))
    (constant S_ .f32 0xFF800000#32) reducesTo_S2x2x8x128x1024_S2x2x8_d3_4 h_S_)

/-- The scale of each chunk. -/
def scales : FVec Ideal S2x2x8x1x1 .f32 :=
  Host.divf (broadcastInDim S2x2x8x1x1 ![] bcast_S_S2x2x8x1x1 (constant S_ .f32 0x42FE0000#32))
    (maximumf (mags a) (broadcastInDim S2x2x8x1x1 ![] bcast_S_S2x2x8x1x1 (constant S_ .f32 0x0DA24260#32)))

/-- The code of each element, decoded. -/
def decodes : FVec Ideal S2x2x8x128x1024 .f32 :=
  mulf (Host.roundeven (mulf (parts a) (broadcastInDim S2x2x8x128x1024 ![0, 1, 2, 3, 4] bcast_S2x2x8x1x1_S2x2x8x128x1024_0_1_2_3_4 (scales a))))
    (broadcastInDim S2x2x8x128x1024 ![0, 1, 2, 3, 4] bcast_S2x2x8x1x1_S2x2x8x128x1024_0_1_2_3_4
      (Host.divf (mags a) (broadcastInDim S2x2x8x1x1 ![] bcast_S_S2x2x8x1x1 (constant S_ .f32 0x42FE0000#32))))

/-- Where the source is the half: a device's own rows. -/
def owns : IVec S2x2x8x128x1024 1 :=
  broadcastInDim S2x2x8x128x1024 ![0, 1, 2, 3, 4] bcast_S2x2x1x1x1_S2x2x8x128x1024_0_1_2_3_4
    (broadcastInDim S2x2x1x1x1 ![0, 1] bcast_S2x2_S2x2x1x1x1_0_1
      (cmpi .eq (addi (iotaInDim S2x2 32 0) (broadcastInDim S2x2 ![] bcast_S_S2x2 (constantI S_ 32 0#32))) (iotaInDim S2x2 32 1)))

/-- The sum over the sources. -/
def sums : FVec Ideal S2048x1024 .f32 :=
  shapeCast _ (Host.reduceAdd (select owns (parts a) (decodes a)) (constant S_ .f32 0x00000000#32)
    reducesTo_S2x2x8x128x1024_S2x8x128x1024_d0 h_S_) shapeCasts_S2x8x128x1024_S2048x1024

/-- The whole reference. -/
def result : FVec Ideal S2048x1024 .f32 :=
  mulf (Host.divf (sums a) (broadcastInDim S2048x1024 ![0, 1] bcast_S2048x1_S2048x1024_0_1 (Host.sqrt (addf
      (Host.divf (broadcastInDim S2048x1 ![0] bcast_S2048_S2048x1_0 (Host.reduceAdd (mulf (sums a) (sums a))
        (constant S_ .f32 0x00000000#32) reducesTo_S2048x1024_S2048_d1 h_S_))
        (broadcastInDim S2048x1 ![] bcast_S_S2048x1 (constant S_ .f32 0x44800000#32)))
      (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 g))

/-- The reference's run ends at `result` of its two arguments. -/
theorem res_eq (m : (ℓ : Loc nD τ sig) → Buf (Elt Ideal) ℓ) (c : Dev nD) :
    Value.res_main_v36 m c = result (m ((c.tc : Thread nD τ).loc main_arg0)) (m ((c.tc : Thread nD τ).loc main_arg1)) := rfl

/-! ## Each stage at an index -/

/-- Chunk `k` of half `h` of source `s`. -/
def chunk (s h : Fin 2) (k : Fin 8) (r : Fin 128) (j : Fin 1024) : EReal :=
  a (ix3 s ⟨1024 * h.val + 128 * k.val + r.val, by omega⟩ j)

theorem parts_at (s h : Fin 2) (k : Fin 8) (r : Fin 128) (j : Fin 1024) : parts a (ix5 s h k r j) = chunk a s h k r j := by
  unfold parts chunk
  refine shapeCast_apply a _ _ _ ?_
  rw [Shape.rowMajor_val_three, Shape.rowMajor_val_five]
  show (s.val * 2048 + (1024 * h.val + 128 * k.val + r.val)) * 1024 + j.val
    = (((s.val * 2 + h.val) * 8 + k.val) * 128 + r.val) * 1024 + j.val
  ring

theorem mags_at (s h : Fin 2) (k : Fin 8) (u v : Fin 1) : mags a (ix5 s h k u v) = mag (chunk a s h k) := by
  unfold mags
  rw [broadcastInDim_apply _ _ _ _ (ix3 s h k) (by
    intro x
    match x with
    | ⟨0, _⟩ => rfl
    | ⟨1, _⟩ => rfl
    | ⟨2, _⟩ => rfl)]
  have e := Host.reduce_eq_fold (FloatOps.maximumf (F := Ideal) (φ := .f32)) (Host.absf (parts a))
    (constant (F := Ideal) S_ .f32 0xFF800000#32) reducesTo_S2x2x8x128x1024_S2x2x8_d3_4 h_S_ (ix3 s h k)
  refine e.trans ?_
  have eb : constant (F := Ideal) S_ .f32 0xFF800000#32 (Shape.Idx.first h_S_) = ⊥ := ofBits_neg_inf
  rw [eb]
  refine fold_eq_mag _ _ _ (fun i hi => ⟨i 3, i 4, ?_⟩) fun r j => ⟨ix5 s h k r j, ?_, ?_⟩
  · have hd := (Finset.mem_filter.mp hi).2
    have e0 : i 0 = s := Fin.ext (congrArg Fin.val (congrFun hd 0))
    have e1 : i 1 = h := Fin.ext (congrArg Fin.val (congrFun hd 1))
    have e2 : i 2 = k := Fin.ext (congrArg Fin.val (congrFun hd 2))
    have ei : i = ix5 s h k (i 3) (i 4) := by
      rw [← e0, ← e1, ← e2]; exact eq_ix5 i
    have ep : parts a i = chunk a s h k (i 3) (i 4) := by
      rw [ei]; exact parts_at a s h k (i 3) (i 4)
    show max (parts a i) (-(parts a i)) = _
    rw [ep]
  · refine Finset.mem_filter.mpr ⟨Finset.mem_univ _, funext fun x => Fin.ext ?_⟩
    match x with
    | ⟨0, _⟩ => rfl
    | ⟨1, _⟩ => rfl
    | ⟨2, _⟩ => rfl
  · show max (parts a (ix5 s h k r j)) (-(parts a (ix5 s h k r j))) = _
    rw [parts_at]

/-- One value of each chunk, read at an element. -/
theorem perChunk_at (x : FVec Ideal S2x2x8x1x1 .f32) (s h : Fin 2) (k : Fin 8) (r : Fin 128) (j : Fin 1024) :
    broadcastInDim S2x2x8x128x1024 ![0, 1, 2, 3, 4] bcast_S2x2x8x1x1_S2x2x8x128x1024_0_1_2_3_4 x (ix5 s h k r j) = x (ix5 s h k 0 0) :=
  broadcastInDim_apply _ _ _ _ _ fun y => by
    match y with
    | ⟨0, _⟩ => rfl
    | ⟨1, _⟩ => rfl
    | ⟨2, _⟩ => rfl
    | ⟨3, _⟩ => rfl
    | ⟨4, _⟩ => rfl

theorem scales_at (s h : Fin 2) (k : Fin 8) (u v : Fin 1) : scales a (ix5 s h k u v) = scale (mag (chunk a s h k)) := by
  unfold scales
  rw [hostDivf_apply, maximumf_apply, broadcastInDim_scalar_apply, broadcastInDim_scalar_apply, constant_apply, constant_apply, mags_at]
  unfold scale tiny
  rw [← ofBits_127]

theorem decodes_at (s h : Fin 2) (k : Fin 8) (r : Fin 128) (j : Fin 1024) :
    decodes a (ix5 s h k r j) = decoded (mag (chunk a s h k)) (chunk a s h k r j) := by
  unfold decodes
  rw [mulf_apply, perChunk_at, hostDivf_apply, broadcastInDim_scalar_apply, constant_apply, mags_at]
  show Ideal.liftRound Ideal.roundHalfEven (mulf (parts a) _ (ix5 s h k r j)) * _ = _
  rw [mulf_apply, perChunk_at, parts_at, scales_at]
  unfold decoded code
  rw [← ofBits_127]

theorem owns_at (s h : Fin 2) (k : Fin 8) (r : Fin 128) (j : Fin 1024) : owns (ix5 s h k r j) = if s = h then 1#1 else 0#1 := by
  unfold owns
  rw [broadcastInDim_apply _ _ _ _ (ix5 s h 0 0 0) (by
    intro y
    match y with
    | ⟨0, _⟩ => rfl
    | ⟨1, _⟩ => rfl
    | ⟨2, _⟩ => rfl
    | ⟨3, _⟩ => rfl
    | ⟨4, _⟩ => rfl), broadcastInDim_apply _ _ _ _ (ix2 s h) (by
    intro y
    match y with
    | ⟨0, _⟩ => rfl
    | ⟨1, _⟩ => rfl)]
  show IntOp.cmpi .eq (IntOp.addi (BitVec.ofNat 32 s.val) 0#32) (BitVec.ofNat 32 h.val) = _
  revert s h
  decide

/-- The sum at a row of half `h`: the half's own source, and the decoded codes of the other. -/
theorem sums_at (h : Fin 2) (k : Fin 8) (r : Fin 128) (j : Fin 1024) :
    sums a (ix2 ⟨1024 * h.val + 128 * k.val + r.val, by omega⟩ j) = summed (chunk a h h k) (chunk a (1 - h) h k) r j := by
  unfold sums
  rw [shapeCast_apply _ _ _ (ix4 h k r j) (by
    rw [Shape.rowMajor_val_four, Shape.rowMajor_val_two]
    show ((h.val * 8 + k.val) * 128 + r.val) * 1024 + j.val = (1024 * h.val + 128 * k.val + r.val) * 1024 + j.val
    ring), hostReduceAdd_apply]
  rw [Ideal.hostReduceAdd_single _ (by decide)]
  have e (s : Fin 2) : select owns (parts a) (decodes a) (ix5 s h k r j)
      = if s = h then chunk a s h k r j else decoded (mag (chunk a s h k)) (chunk a s h k r j) := by
    show Scalar.select (owns (ix5 s h k r j)) (parts a (ix5 s h k r j)) (decodes a (ix5 s h k r j)) = _
    rw [owns_at, parts_at, decodes_at]
    split_ifs
    · rfl
    · rfl
  have es : (∑ s : Fin 2, select owns (parts a) (decodes a) (ix5 s h k r j)) = summed (chunk a h h k) (chunk a (1 - h) h k) r j := by
    rw [Fin.sum_univ_two, e, e, summed]
    obtain rfl | rfl : h = 0 ∨ h = 1 := by omega
    · rfl
    · exact add_comm _ _
  have el (s : Fin 2) : (Shape.Reduces.lift (s := S2x2x8x128x1024) (t := S2x8x128x1024) (a := 0) (by decide) (ix4 h k r j) s) = ix5 s h k r j := by
    funext y
    match y with
    | ⟨0, _⟩ => rfl
    | ⟨1, _⟩ => rfl
    | ⟨2, _⟩ => rfl
    | ⟨3, _⟩ => rfl
    | ⟨4, _⟩ => rfl
  refine Eq.trans ?_ es
  have e0 : constant (F := Ideal) S_ .f32 0x00000000#32 (Shape.Idx.first h_S_) = 0 := ofBits_0
  rw [e0, zero_add]
  exact Finset.sum_congr rfl fun s _ => congrArg _ (el s)

/-- The weight of a column, read at an element. -/
theorem weight_at (R : Fin 2048) (j : Fin 1024) :
    broadcastInDim S2048x1024 ![0, 1] bcast_S1x1024_S2048x1024_0_1 (broadcastInDim S1x1024 ![1] bcast_S1024_S1x1024_1 g) (ix2 R j) = g (ix1 j) := by
  rw [broadcastInDim_apply _ _ _ _ (ix2 (0 : Fin 1) j) (by
    intro y
    match y with
    | ⟨0, _⟩ => rfl
    | ⟨1, _⟩ => rfl), broadcastInDim_apply _ _ _ _ (ix1 j) (by
    intro y
    match y with
    | ⟨0, _⟩ => rfl)]

/-- One value of each row, read at an element. -/
theorem perRow_at (x : FVec Ideal S2048x1 .f32) (R : Fin 2048) (j : Fin 1024) :
    broadcastInDim S2048x1024 ![0, 1] bcast_S2048x1_S2048x1024_0_1 x (ix2 R j) = x (ix2 R 0) :=
  broadcastInDim_apply _ _ _ _ _ fun y => by
    match y with
    | ⟨0, _⟩ => rfl
    | ⟨1, _⟩ => rfl

/-- One value of each row, as a column of the row's length one. -/
theorem column_at (x : FVec Ideal S2048 .f32) (R : Fin 2048) :
    broadcastInDim S2048x1 ![0] bcast_S2048_S2048x1_0 x (ix2 R 0) = x (ix1 R) :=
  broadcastInDim_apply _ _ _ _ _ fun y => by
    match y with
    | ⟨0, _⟩ => rfl

/-- The sum along a row. -/
theorem rowSum_at (x : FVec Ideal S2048x1024 .f32) (R : Fin 2048) :
    Host.reduceAdd x (constant S_ .f32 0x00000000#32) reducesTo_S2048x1024_S2048_d1 h_S_ (ix1 R) = ∑ k : Fin 1024, x (ix2 R k) := by
  have e0 : constant (F := Ideal) S_ .f32 0x00000000#32 (Shape.Idx.first h_S_) = 0 := ofBits_0
  have el (k : Fin 1024) : (Shape.Reduces.lift (s := S2048x1024) (t := S2048) (a := 1) (by decide) (ix1 R) k) = ix2 R k := by
    funext y
    match y with
    | ⟨0, _⟩ => rfl
    | ⟨1, _⟩ => rfl
  rw [hostReduceAdd_apply, Ideal.hostReduceAdd_single _ (by decide), e0, zero_add]
  exact Finset.sum_congr rfl fun k _ => congrArg x (el k)

/-- The reference's result at a row and column: the row normalised. -/
theorem result_at (R : Fin 2048) (j : Fin 1024) :
    result a g (ix2 R j) = normed (fun k => sums a (ix2 R k)) (g (ix1 j)) j := by
  unfold result
  rw [mulf_apply, hostDivf_apply, weight_at, perRow_at]
  generalize sums a = y
  have e (u v : FVec Ideal S2048x1 .f32) (i : S2048x1.Idx) : Host.sqrt (addf u v) i = Ideal.sqrt (u i + v i) := rfl
  rw [e, hostDivf_apply, broadcastInDim_scalar_apply, broadcastInDim_scalar_apply, constant_apply, constant_apply, column_at, rowSum_at]
  unfold normed
  rfl

/-- The result at row `128k + r` of half `h`. -/
theorem result_row (h : Fin 2) (k : Fin 8) (r : Fin 128) (j : Fin 1024) :
    result a g (ix2 ⟨1024 * h.val + 128 * k.val + r.val, by omega⟩ j)
      = normed (summed (chunk a h h k) (chunk a (1 - h) h k) r) (g (ix1 j)) j := by
  rw [result_at]
  exact congrArg (fun y => normed y _ j) (funext fun x => sums_at a h k r x)

end Cert.Value.Ref

end
-- ==== Proof.Value.Kernel.lean ====
/-
  What each of the kernel's steps computes, on the extended reals, in terms of `Spec`: a chunk's greatest magnitude, the
  row of the eight scales, the codes of a chunk, and the rows of the result.
-/
module

public import proofs.«01_k».proof.Proof.Value.Spec
public import proofs.«01_k».proof.Proof.KernelIdealProof.Hops
public import Idealize.ShloMosaic.Lib.Pipeline.Value
public import Idealize.ShloMosaic.Lib.IdealHost
public import Idealize.ShloMosaic.Lib.ValueIdx
public import Idealize.ShloMosaic.Lib.ValueLayout
public import Idealize.ShloMosaic.Lib.ValueLayoutCasts

@[expose] public section

noncomputable section

namespace Cert.Value.Ker

open Idealize.ShloMosaic Idealize.ShloMosaic.TcCoe Idealize.ShloMosaic.ValueIdx
open Cert.KernelIdeal Cert.KernelIdeal.Gen Cert.KernelIdealProof

/-- The elements of a loaded chunk by row and column. -/
def elems (v : Vec Ideal S1x128x1024 .f32) (r : Fin 128) (j : Fin 1024) : EReal := v (ix3 0 r j)

/-- The named constant of the kernel. -/
def inv127 : EReal := ((127⁻¹ : ℝ) : EReal)

theorem named_inv127 : Named.named (F := Ideal) (φ := .f32) κ "inv127" 0x3C010204#32 = inv127 :=
  IdealRules.named_const.ideal_named_scalar _ _ _ _ rfl

/-- Dividing by 127 is multiplying by the named constant. -/
theorem div127_eq (x : EReal) : Ideal.div x ((127 : ℝ) : EReal) = x * inv127 := by
  rw [Ideal.div_coe (by norm_num), one_div, inv127]

theorem split_at {e : EltTy} (v : Vec Ideal S1x128x1024 e) (r : Fin 128) (j : Fin 1024) :
    shapeCast S128x1024 v shapeCasts_S1x128x1024_S128x1024 (ix2 r j) = v (ix3 0 r j) :=
  shapeCast_apply v _ _ _ (by
    rw [Shape.rowMajor_val_three, Shape.rowMajor_val_two]
    show (0 * 128 + r.val) * 1024 + j.val = r.val * 1024 + j.val
    omega)

theorem wrap_at {α : Type} (v : S128x1024.Idx → α) (u : Fin 1) (r : Fin 128) (j : Fin 1024) :
    shapeCast S1x128x1024 v shapeCasts_S128x1024_S1x128x1024 (ix3 u r j) = v (ix2 r j) :=
  shapeCast_apply v _ _ _ (by
    rw [Shape.rowMajor_val_three, Shape.rowMajor_val_two]
    show r.val * 1024 + j.val = (u.val * 128 + r.val) * 1024 + j.val
    omega)

/-- The maximum of the magnitudes of a chunk. -/
theorem chunkMax_eq (v : Vec Ideal S1x128x1024 .f32) : k0_pay1 (F := Ideal) v = mag (elems v) := by
  unfold k0_pay1
  show shapeCast S1x1x1 (multiReduction .maximumf [1, 2] S1 (shapeCast S1x128x1024 (absf (F := Ideal) (φ := .f32)
    (shapeCast S128x1024 v shapeCasts_S1x128x1024_S128x1024)) shapeCasts_S128x1024_S1x128x1024) 0xFF800000#32
    reduces_S1x128x1024_S1 (.inl rfl) rfl) shapeCasts_S1_S1x1x1 (ix3 0 0 0) = _
  rw [shapeCast_apply _ _ _ (ix1 0) (by rw [Shape.rowMajor_val_three, Shape.rowMajor_val_one]; rfl)]
  refine (multiReduction_maximumf_eq_fold _ _ _ _ _ _).trans ?_
  have eb : FloatOps.ofBits (F := Ideal) .f32 0xFF800000#32 = ⊥ := ofBits_neg_inf
  rw [eb]
  have em (r : Fin 128) (j : Fin 1024) (u : Fin 1) : shapeCast S1x128x1024 (absf (F := Ideal) (φ := .f32)
      (shapeCast S128x1024 v shapeCasts_S1x128x1024_S128x1024)) shapeCasts_S128x1024_S1x128x1024 (ix3 u r j)
      = max (elems v r j) (-(elems v r j)) := by
    rw [wrap_at]
    have e := split_at v r j
    exact congrArg (fun x : EReal => max x (-x)) e
  refine fold_eq_mag _ _ _ (fun i _ => ⟨i 1, i 2, ?_⟩) fun r j => ⟨ix3 0 r j, ?_, em r j 0⟩
  · rw [← em (i 1) (i 2) (i 0)]
    exact congrArg _ (eq_ix3 i)
  · refine Finset.mem_filter.mpr ⟨Finset.mem_univ _, funext fun x => Fin.ext ?_⟩
    match x with
    | ⟨0, _⟩ => rfl

/-- A row with lane `n` set to `x`. -/
def setLane (n : Fin 8) (x : EReal) (row : FVec Ideal S1x128 .f32) : FVec Ideal S1x128 .f32 :=
  select (cmpi .eq (iota .tc S1x128 32 [1] iota_S1x128_d1_w32) (broadcast S1x128 (BitVec.ofNat 32 n.val))) (broadcast S1x128 x) row

theorem setLane_at (n k : Fin 8) (x : EReal) (row : FVec Ideal S1x128 .f32) (u : Fin 1) :
    setLane n x row (ix2 u ⟨k.val, by omega⟩) = if k = n then x else row (ix2 u ⟨k.val, by omega⟩) := by
  have e : cmpi .eq (iota .tc S1x128 32 [1] iota_S1x128_d1_w32) (broadcast S1x128 (BitVec.ofNat 32 n.val)) (ix2 u ⟨k.val, by omega⟩)
      = if k = n then 1#1 else 0#1 := by
    show IntOp.cmpi .eq (iota .tc S1x128 32 [1] iota_S1x128_d1_w32 (ix2 u ⟨k.val, by omega⟩)) (BitVec.ofNat 32 n.val) = _
    rw [iota_single_apply]
    show IntOp.cmpi .eq (BitVec.ofNat 32 k.val) (BitVec.ofNat 32 n.val) = _
    revert k n
    decide
  unfold setLane
  rw [select_apply, e]
  split_ifs
  · rfl
  · rfl

/-- A chunk's greatest magnitude times the named constant. -/
def laneVal (v : Vec Ideal S1x128x1024 .f32) : EReal :=
  Scalar.mulf (F := Ideal) (φ := .f32) (k0_pay1 (F := Ideal) v) (Named.named (F := Ideal) (φ := .f32) κ "inv127" 0x3C010204#32)

/-- The row of the scales: eight lanes set in turn. -/
theorem scaleRow_eq (v : Fin 8 → Vec Ideal S1x128x1024 .f32) :
    scaleRow v = shapeCast S1x128 (setLane 7 (laneVal (v 7)) (setLane 6 (laneVal (v 6)) (setLane 5 (laneVal (v 5))
      (setLane 4 (laneVal (v 4)) (setLane 3 (laneVal (v 3)) (setLane 2 (laneVal (v 2)) (setLane 1 (laneVal (v 1))
      (setLane 0 (laneVal (v 0)) (broadcast S1x128 (Scalar.ofBits .f32 0x00000000#32)))))))))) shapeCasts_S1x128_S1x128 := rfl

theorem laneVal_eq (v : Vec Ideal S1x128x1024 .f32) : laneVal v = Ideal.div (mag (elems v)) ((127 : ℝ) : EReal) := by
  unfold laneVal
  rw [div127_eq, chunkMax_eq, named_inv127]
  generalize mag (elems v) = x
  rfl

/-- Lane `k` of the row of the scales: the greatest magnitude of chunk `k`, over 127. -/
theorem scaleRow_at (v : Fin 8 → Vec Ideal S1x128x1024 .f32) (u : Fin 1) (k : Fin 8) :
    scaleRow v (ix2 u ⟨k.val, by omega⟩) = Ideal.div (mag (elems (v k))) ((127 : ℝ) : EReal) := by
  rw [scaleRow_eq, shapeCast_apply _ _ _ (ix2 u ⟨k.val, by omega⟩) rfl]
  simp only [setLane_at]
  rw [← laneVal_eq]
  generalize Scalar.ofBits (F := Ideal) .f32 0x00000000#32 = z
  generalize hf : (fun i => laneVal (v i)) = f
  have e (i : Fin 8) : laneVal (v i) = f i := by rw [← hf]
  simp only [e]
  clear e hf
  fin_cases k <;> rfl

/-- The codes of a chunk, as 8-bit integers. -/
theorem quant_at (v : Vec Ideal S1x128x1024 .f32) (u : Fin 1) (r : Fin 128) (j : Fin 1024) :
    quant v v (ix3 u r j) = Ideal.fptosi 8 (code (mag (elems v)) (elems v r j)) := by
  unfold quant k0_pay16
  refine (wrap_at _ u r j).trans ?_
  rw [chunkMax_eq]
  have e := split_at v r j
  unfold code scale
  rw [← ofBits_127]
  exact congrArg (fun x : EReal => Ideal.fptosi 8 (Ideal.liftRound Ideal.roundHalfEven (x * Ideal.div (Ideal.ofBits .f32 0x42FE0000#32) (max (mag (elems v)) tiny)))) e

/-- Reading the codes of a chunk back gives the rounded values. -/
theorem quant_back (v : Vec Ideal S1x128x1024 .f32) (u : Fin 1) (r : Fin 128) (j : Fin 1024) :
    (((quant v v (ix3 u r j) : BitVec 8).toInt : ℝ) : EReal) = code (mag (elems v)) (elems v r j) := by
  rw [quant_at]
  exact code_int8 _ _ (le_mag _ r j)

/-- The sum the kernel forms: the device's own rows and the received codes times their scale. -/
def added (s : Vec Ideal S1x1 .f32) (mine : Vec Ideal S1x128x1024 .f32) (q : Vec Ideal S1x128x1024 .i8) : FVec Ideal S128x1024 .f32 :=
  addf (shapeCast S128x1024 mine shapeCasts_S1x128x1024_S128x1024)
    (mulf (sitofp .f32 (shapeCast S128x1024 q shapeCasts_S1x128x1024_S128x1024)) (broadcastTo S128x1024 s broadcasts_S1x1_S128x1024))

theorem added_at (mine v : Vec Ideal S1x128x1024 .f32) (s : Vec Ideal S1x1 .f32)
    (hs : s (ix2 0 0) = Ideal.div (mag (elems v)) ((127 : ℝ) : EReal)) (r : Fin 128) (j : Fin 1024) :
    added s mine (quant v v) (ix2 r j) = summed (elems mine) (elems v) r j := by
  unfold added
  rw [addf_apply, split_at, mulf_apply, sitofp_apply, split_at, broadcastTo_apply _ _ _ (ix2 0 0) (by
    intro x
    match x with
    | ⟨0, _⟩ => rfl
    | ⟨1, _⟩ => rfl), hs]
  have e := quant_back v 0 r j
  unfold summed decoded
  rw [← e]
  rfl

/-- The sum along a row. -/
theorem rowSum_at (x : FVec Ideal S128x1024 .f32) (r : Fin 128) :
    multiReduction .add [1] S128 x 0x00000000#32 reduces_S128x1024_S128 (.inl rfl) rfl (ix1 r) = ∑ k : Fin 1024, x (ix2 r k) := by
  refine (Ideal.multiReduction_add_single _ _ _ _ _ _).trans ?_
  refine Finset.sum_congr rfl fun k _ => congrArg x ?_
  funext y
  match y with
  | ⟨0, _⟩ => rfl
  | ⟨1, _⟩ => rfl

/-- The rows of the result: the sum normalised and weighted. -/
theorem outRows_at (s : Vec Ideal S1x1 .f32) (mine : Vec Ideal S1x128x1024 .f32) (q : Vec Ideal S1x128x1024 .i8)
    (g : Vec Ideal S1024 .f32) (r : Fin 128) (j : Fin 1024) :
    outRows s mine q g (ix2 r j) = normed (fun k => added s mine q (ix2 r k)) (g (ix1 j)) j := by
  unfold outRows k0_pay29
  refine (mulf_apply _ _ _).trans ?_
  rw [broadcastTo_apply _ _ _ (ix2 0 j) (by
    intro x
    match x with
    | ⟨0, _⟩ => rfl
    | ⟨1, _⟩ => rfl), shapeCast_apply _ _ _ (ix1 j) (by
    rw [Shape.rowMajor_val_two, Shape.rowMajor_val_one]
    show j.val = 0 * 1024 + j.val
    omega), shapeCast_apply g _ _ (ix1 j) rfl]
  unfold normed
  refine congrArg (fun x : EReal => x * g (ix1 j)) ?_
  show divf (added s mine q) _ (ix2 r j) = _
  rw [divf_apply, broadcastTo_apply _ _ _ (ix2 r 0) (by
    intro x
    match x with
    | ⟨0, _⟩ => rfl
    | ⟨1, _⟩ => rfl)]
  have e (u v : FVec Ideal S128x1 .f32) (i : S128x1.Idx) : sqrt (addf u v) i = Ideal.sqrt (u i + v i) := rfl
  rw [e, divf_apply, broadcast_apply, broadcast_apply, shapeCast_apply _ _ _ (ix1 r) (by
    rw [Shape.rowMajor_val_two, Shape.rowMajor_val_one]
    show r.val = r.val * 1 + 0
    omega)]
  have es := rowSum_at (mulf (added s mine q) (added s mine q)) r
  exact congrArg (fun x : EReal => Ideal.div (added s mine q (ix2 r j)) (Ideal.sqrt (Ideal.div x (Ideal.ofBits .f32 0x44800000#32) + Ideal.ofBits .f32 0x358637BD#32))) es

end Cert.Value.Ker

end
-- ==== Proof.Value.Blocks.lean ====
/-
  What the idealized kernel's run leaves in device `c`'s block of the result, at a row and a column, in terms of the rows
  that device `c` and its peer hold of the input.
-/
module

public import proofs.«01_k».proof.Proof.Value.Kernel
public import proofs.«01_k».proof.Proof.KernelIdealProof.Launch
public import Idealize.ShloMosaic.Lib.Pipeline.ValueKit

@[expose] public section

noncomputable section

namespace Cert.Value.Ker

open Idealize.ShloMosaic hiding ix1 ix2 ix3
open Idealize.ShloMosaic.TcCoe Idealize.ShloMosaic.ValueIdx
open Idealize.ShloMosaic.Pipeline
open Cert.KernelIdeal Cert.KernelIdeal.Gen Cert.KernelIdealProof

variable (m : (ℓ : Loc nD τ sig) → Buf (Elt Ideal) ℓ) (ρ : Dev nD → PrngReg)

/-- The half of the rows that device `c` keeps. -/
def half (c : Dev nD) : Fin 2 := ⟨c.val / 16, by have : c.val < 32 := c.isLt; omega⟩

theorem half_peer (c : Dev nD) : half (peer c) = 1 - half c := by revert c; decide
theorem half_peer' (c : Dev nD) : 1 - half (peer c) = half c := by revert c; decide

/-- Chunk `k` of half `h` of the rows that device `c` holds of the input. -/
def held (c : Dev nD) (h : Fin 2) (k : Fin 8) (r : Fin 128) (j : Fin 1024) : EReal :=
  m ((c : Thread nD τ).loc main_arg0) (ix3 0 ⟨1024 * h.val + 128 * k.val + r.val, by omega⟩ j)

/-- The launch has one grid point: the windows' blocks are the first. -/
theorem index0 (a : Fin 3) : win0_0.index (0 : Fin 1) a = 0 := by revert a; decide +kernel
theorem index1 (a : Fin 1) : win0_1.index (0 : Fin 1) a = 0 := by revert a; decide +kernel

/-- The staged input is the device's block of the input, and the staged weights its weights. -/
theorem xstg_at (c : Dev nD) (i : S1x2048x1024.Idx) : xstg m ρ c i = m ((c : Thread nD τ).loc main_arg0) i := by
  show m ((c : Thread nD τ).loc main_arg0) ((win0_0.blk (0 : Fin 1)).view.emb i) = _
  refine congrArg (m ((c : Thread nD τ).loc main_arg0)) (funext fun a => Fin.ext ?_)
  exact Window.rect_emb_val_of_index_zero _ _ _ (index0 a) i

theorem gstg_at (c : Dev nD) (i : S1024.Idx) : gstg m ρ c i = m ((c : Thread nD τ).loc main_arg1) i := by
  show m ((c : Thread nD τ).loc main_arg1) ((win0_1.blk (0 : Fin 1)).view.emb i) = _
  refine congrArg (m ((c : Thread nD τ).loc main_arg1)) (funext fun a => Fin.ext ?_)
  exact Window.rect_emb_val_of_index_zero _ _ _ (index1 a) i

/-- The chunk a device loads of its own half, and of its peer's. -/
theorem ownChunk_elems (c : Dev nD) (k : Fin 8) : elems (ownChunk m ρ c k) = held m c (half c) k := by
  funext r j
  refine (xstg_at m ρ c ((ownR c k).toLoadRect.idx (ix3 0 r j))).trans ?_
  unfold held
  refine congrArg (m ((c : Thread nD τ).loc main_arg0)) (funext fun a => Fin.ext ?_)
  show k0_off2 c (BitVec.ofNat 32 (128 * k.val)) a + 1 * (ix3 (0 : Fin 1) r j a).val = _
  rw [k0_off2_eq, one_mul]
  match a with
  | ⟨0, _⟩ => rfl
  | ⟨1, _⟩ => rfl
  | ⟨2, _⟩ => exact Nat.zero_add _

theorem peerChunk_elems (c : Dev nD) (k : Fin 8) : elems (peerChunk m ρ c k) = held m c (1 - half c) k := by
  funext r j
  refine (xstg_at m ρ c ((peerR c k).toLoadRect.idx (ix3 0 r j))).trans ?_
  unfold held
  refine congrArg (m ((c : Thread nD τ).loc main_arg0)) (funext fun a => Fin.ext ?_)
  show k0_off1 c (BitVec.ofNat 32 (128 * k.val)) a + 1 * (ix3 (0 : Fin 1) r j a).val = _
  rw [k0_off1_eq, one_mul]
  match a with
  | ⟨0, _⟩ => rfl
  | ⟨1, _⟩ =>
    show (128 * k.val + 1024) - 1024 * (c.val / 16) + r.val = 1024 * (1 - half c).val + 128 * k.val + r.val
    have e : (1 - half c).val = 1 - c.val / 16 := by revert c; decide
    have : c.val < 32 := c.isLt
    rw [e]
    omega
  | ⟨2, _⟩ => exact Nat.zero_add _

/-- Row `r` of chunk `k` of the result on device `c`. -/
theorem rowsAt_at (c : Dev nD) (k : Fin 8) (r : Fin 128) (j : Fin 1024) :
    rowsAt m ρ c k (ix2 r j)
      = normed (summed (held m c (half c) k) (held m (peer c) (half c) k) r) (m ((c : Thread nD τ).loc main_arg1) (ix1 j)) j := by
  unfold rowsAt qChunk
  rw [outRows_at]
  have eg : ((gM : Memref sig .tc .vmem S1024 .f32).view.readAt (Elt Ideal) gR.toLoadRect (gstg m ρ c)) (ix1 j)
      = m ((c : Thread nD τ).loc main_arg1) (ix1 j) := by
    refine (gstg_at m ρ c (gR.toLoadRect.idx (ix1 j))).trans ?_
    refine congrArg (m ((c : Thread nD τ).loc main_arg1)) (funext fun a => Fin.ext ?_)
    match a with
    | ⟨0, _⟩ =>
      show 0 + 1 * j.val = j.val
      omega
  have es : ((srM : Memref sig .tc .vmem S1x128 .f32).view.readAt (Elt Ideal) (lR k).toLoadRect (scales m ρ (peer c))) (ix2 0 0)
      = Ideal.div (mag (elems (peerChunk m ρ (peer c) k))) ((127 : ℝ) : EReal) := by
    refine Eq.trans ?_ (scaleRow_at (peerChunk m ρ (peer c)) 0 k)
    show scales m ρ (peer c) ((lR k).toLoadRect.idx (ix2 0 0)) = _
    unfold scales
    refine congrArg (scaleRow (peerChunk m ρ (peer c))) (funext fun a => Fin.ext ?_)
    match a with
    | ⟨0, _⟩ => rfl
    | ⟨1, _⟩ => rfl
  rw [eg]
  refine congrArg (fun y => normed y _ j) (funext fun x => ?_)
  rw [added_at _ _ _ es, ownChunk_elems, peerChunk_elems, half_peer']

/-- The array of the result after the run. -/
theorem result_arr (c : Dev nD) : finalA m ρ c (2 : Fin 3) = outAt m ρ c := by
  unfold finalA
  refine (dats m ρ 0 c).arrAt_eq_of_after_last (2 : Fin 3) t0_0 (by decide +kernel) _ fun j => ?_
  rfl

/-- The result of device `c` at row `128k + r` and column `j`. -/
theorem result_at (c : Dev nD) (k : Fin 8) (r : Fin 128) (j : Fin 1024) :
    outAt m ρ c (ix2 ⟨128 * k.val + r.val, by omega⟩ j)
      = normed (summed (held m c (half c) k) (held m (peer c) (half c) k) r) (m ((c : Thread nD τ).loc main_arg1) (ix1 j)) j := by
  refine Eq.trans ?_ (rowsAt_at m ρ c k r j)
  have ek : (⟨(128 * k.val + r.val) / 128, by omega⟩ : Fin 8) = k := Fin.ext (by show (128 * k.val + r.val) / 128 = k.val; omega)
  have er (x : Fin 128) (hx : x.val = (128 * k.val + r.val) % 128) : x = r := Fin.ext (by omega)
  unfold outAt
  generalize rowsAt m ρ c = f
  refine congr (congrArg f ek) (funext fun a => ?_)
  match a with
  | ⟨0, _⟩ => exact er _ rfl
  | ⟨1, _⟩ => rfl

end Cert.Value.Ker

end
-- ==== Proof.Claims.Algebraic.lean ====
/-
  The value claim: on the extended reals, each device's block of the kernel's result is that block of the reference's.
-/
module

public import proofs.«01_k».proof.Defs
public import proofs.«01_k».proof.Proof.Value.Reference
public import proofs.«01_k».proof.Proof.Value.Blocks

@[expose] public section

noncomputable section

namespace Cert.Proof.Claims

open Idealize.ShloMosaic hiding ix1 ix2 ix3 eq_ix2
open Idealize.ShloMosaic.TcCoe Idealize.ShloMosaic.ValueIdx Idealize.SL.Sem
open Cert.Value Cert.Value.Ker Cert.KernelIdealProof

/-- The block of a device along the first axis of the mesh is the half it keeps. -/
theorem mesh_half (c : Dev Cert.KernelIdeal.nD) : Layout.meshLin [2, 4, 4] c.val [0] = (half c).val := by revert c; decide

variable (m : (ℓ : Loc Cert.KernelIdeal.nD Cert.KernelIdeal.τ Cert.KernelIdeal.sig) → Buf (Elt Ideal) ℓ)
variable (ρ : Dev Cert.KernelIdeal.nD → PrngReg)
variable (a : FVec Ideal Cert.ReferenceIdeal.S2x2048x1024 .f32) (g : FVec Ideal Cert.ReferenceIdeal.S1024 .f32)

/-- What device `c` holds of the input is the source of the reference that its coordinate names. -/
theorem held_eq (c : Dev Cert.KernelIdeal.nD)
    (ha : m ((c.tc : Thread Cert.KernelIdeal.nD Cert.KernelIdeal.τ).loc Cert.KernelIdeal.main_arg0)
      = Layout.blockN ⟨3, ![1, 2048, 1024]⟩ ⟨3, ![2, 2048, 1024]⟩ (Layout.meshBlock [2, 4, 4] ![[0], [], []] c) a)
    (h : Fin 2) (k : Fin 8) : held m c h k = Ref.chunk a (half c) h k := by
  funext r j
  unfold held Ref.chunk
  rw [ha, Layout.blockN_apply]
  refine congrArg a (funext fun x => Fin.ext ?_)
  match x with
  | ⟨0, _⟩ =>
    show Layout.meshLin [2, 4, 4] c.val [0] * 1 + 0 = (half c).val
    rw [mesh_half]
    omega
  | ⟨1, _⟩ =>
    show 0 * 2048 + (1024 * h.val + 128 * k.val + r.val) = 1024 * h.val + 128 * k.val + r.val
    omega
  | ⟨2, _⟩ =>
    show 0 * 1024 + j.val = j.val
    omega

/-- Each device's block of the kernel's result is that block of the reference's result. -/
theorem block_eq
    (ha : ∀ c : Dev Cert.KernelIdeal.nD, m ((c.tc : Thread Cert.KernelIdeal.nD Cert.KernelIdeal.τ).loc Cert.KernelIdeal.main_arg0)
      = Layout.blockN ⟨3, ![1, 2048, 1024]⟩ ⟨3, ![2, 2048, 1024]⟩ (Layout.meshBlock [2, 4, 4] ![[0], [], []] c) a)
    (hg : ∀ c : Dev Cert.KernelIdeal.nD, m ((c.tc : Thread Cert.KernelIdeal.nD Cert.KernelIdeal.τ).loc Cert.KernelIdeal.main_arg1) = g)
    (c : Dev Cert.KernelIdeal.nD) :
    outAt m ρ c = Layout.blockN ⟨2, ![1024, 1024]⟩ ⟨2, ![2048, 1024]⟩ (Layout.meshBlock [2, 4, 4] ![[0], []] c) (Ref.result a g) := by
  funext i
  obtain ⟨R, j, rfl⟩ : ∃ (R : Fin 1024) (j : Fin 1024), i = ix2 R j := ⟨i 0, i 1, eq_ix2 i⟩
  obtain ⟨k, r, rfl⟩ : ∃ (k : Fin 8) (r : Fin 128), R = ⟨128 * k.val + r.val, by omega⟩ :=
    ⟨⟨R.val / 128, by omega⟩, ⟨R.val % 128, by omega⟩, Fin.ext (by show R.val = 128 * (R.val / 128) + R.val % 128; omega)⟩
  refine (result_at m ρ c k r j).trans ?_
  rw [held_eq m a c (ha c), held_eq m a (peer c) (ha (peer c)), half_peer, hg c, ← Ref.result_row a g (half c) k r j, Layout.blockN_apply]
  refine congrArg (Ref.result a g) (funext fun x => Fin.ext ?_)
  match x with
  | ⟨0, _⟩ =>
    show 1024 * (half c).val + 128 * k.val + r.val = Layout.meshLin [2, 4, 4] c.val [0] * 1024 + (128 * k.val + r.val)
    rw [mesh_half]
    omega
  | ⟨1, _⟩ =>
    show j.val = 0 * 1024 + j.val
    omega

/-- From memories holding the same arrays, the idealized kernel and the reference both run, and each device ends with its
    block of the reference's result. -/
theorem algebraic : Cert.algebraic_KernelIdeal_ReferenceIdeal := fun m ρ m' ρ' _ h =>
  ⟨Cert.ReferenceIdeal.Value.res_main_v36 m' 0,
    (θ_run Cert.KernelIdeal.defs _ _).mono
      (fun _ hr c => ⟨(hr.1 c (2 : Fin 3)).trans ((result_arr m ρ c).trans
          ((block_eq m ρ _ _ (fun c => (h c).1) (fun c => (h c).2) c).trans
            (congrArg (fun v => Layout.blockN ⟨2, ![1024, 1024]⟩ ⟨2, ![2048, 1024]⟩ (Layout.meshBlock [2, 4, 4] ![[0], []] c) v)
              (Ref.res_eq m' 0).symm))),
        (hr.1 c (0 : Fin 3)).trans (finalA_arg0 m ρ c), (hr.1 c (1 : Fin 3)).trans (finalA_arg1 m ρ c)⟩)
      (run_main m ρ),
    (θ_run Cert.ReferenceIdeal.defs _ _).mono (fun _ hr => hr 0) (Cert.ReferenceIdeal.Value.run (F := Ideal) m' ρ')⟩

end Cert.Proof.Claims

end
-- ==== Proof.lean ====
/-
  Everything the certificate claims of the kernel, its idealization and the reference, put together from
  `Proof/Claims/`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims.Frames
public import proofs.«01_k».proof.Proof.Claims.Algebraic

@[expose] public section

noncomputable section

namespace Cert.Proof

/-- Every claim of the certificate holds. -/
theorem claim : Cert.Claim := ⟨Cert.Kernel.Gen.facts, Cert.KernelIdeal.Gen.facts, Cert.ReferenceIdeal.Gen.facts,
  Claims.frame_kernel, Claims.frame_ideal, Claims.frame_reference, Claims.preserves, Claims.algebraic⟩

end Cert.Proof

end
